-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S50000 : Shape := ⟨1, ![50000]⟩
abbrev S256x256 : Shape := ⟨2, ![256, 256]⟩
abbrev S768x256 : Shape := ⟨2, ![768, 256]⟩
abbrev S768 : Shape := ⟨1, ![768]⟩
abbrev S25x1x2000 : Shape := ⟨3, ![25, 1, 2000]⟩
abbrev S512x1 : Shape := ⟨2, ![512, 1]⟩
abbrev S512x256 : Shape := ⟨2, ![512, 256]⟩
abbrev S2000x256 : Shape := ⟨2, ![2000, 256]⟩
abbrev S1x1x2000 : Shape := ⟨3, ![1, 1, 2000]⟩
abbrev S1x2000 : Shape := ⟨2, ![1, 2000]⟩
abbrev S512x2000 : Shape := ⟨2, ![512, 2000]⟩
abbrev S512 : Shape := ⟨1, ![512]⟩
abbrev S2000 : Shape := ⟨1, ![2000]⟩
abbrev S512x768 : Shape := ⟨2, ![512, 768]⟩
abbrev S1x768 : Shape := ⟨2, ![1, 768]⟩

abbrev nBuf : Space → Nat
  | .hbm => 22
  | .vmem => 62
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S768x256, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S25x1x2000, .i32⟩
  | .hbm, ⟨8, _⟩ => ⟨S50000x256, .f32⟩
  | .hbm, ⟨9, _⟩ => ⟨S512x1, .f32⟩
  | .hbm, ⟨10, _⟩ => ⟨S512x256, .f32⟩
  | .hbm, ⟨11, _⟩ => ⟨S512x256, .f32⟩
  | .hbm, ⟨12, _⟩ => ⟨S25x1x2000, .f32⟩
  | .hbm, ⟨13, _⟩ => ⟨S512x1, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S25x1x2000, .f32⟩
  | .hbm, ⟨18, _⟩ => ⟨S512x1, .f32⟩
  | .hbm, ⟨19, _⟩ => ⟨S512x1, .f32⟩
  | .hbm, ⟨20, _⟩ => ⟨S512x256, .f32⟩
  | .hbm, ⟨21, _⟩ => ⟨S512x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x1x2000, .i32⟩
  | .local _ .vmem, ⟨4, _⟩ => ⟨S1x1x2000, .i32⟩
  | .local _ .vmem, ⟨5, _⟩ => ⟨S2000x256, .f32⟩
  | .local _ .vmem, ⟨6, _⟩ => ⟨S2000x256, .f32⟩
  | .local _ .vmem, ⟨7, _⟩ => ⟨S512x1, .f32⟩
  | .local _ .vmem, ⟨8, _⟩ => ⟨S512x256, .f32⟩
  | .local _ .vmem, ⟨9, _⟩ => ⟨S512x256, .f32⟩
  | .local _ .vmem, ⟨10, _⟩ => ⟨S512x1, .f32⟩
  | .local _ .vmem, ⟨11, _⟩ => ⟨S512x256, .f32⟩
  | .local _ .vmem, ⟨12, _⟩ => ⟨S2000x256, .f32⟩
  | .local _ .vmem, ⟨13, _⟩ => ⟨S2000x256, .f32⟩
  | .local _ .vmem, ⟨14, _⟩ => ⟨S512x256, .f32⟩
  | .local _ .vmem, ⟨15, _⟩ => ⟨S1x1x2000, .i32⟩
  | .local _ .vmem, ⟨16, _⟩ => ⟨S1x1x2000, .i32⟩
  | .local _ .vmem, ⟨17, _⟩ => ⟨S1x1x2000, .f32⟩
  | .local _ .vmem, ⟨18, _⟩ => ⟨S1x1x2000, .f32⟩
  | .local _ .vmem, ⟨19, _⟩ => ⟨S512x1, .f32⟩
  | .local _ .vmem, ⟨20, _⟩ => ⟨S2000x256, .f32⟩
  | .local _ .vmem, ⟨21, _⟩ => ⟨S2000x256, .f32⟩
  | .local _ .vmem, ⟨22, _⟩ => ⟨S1x1x2000, .i32⟩
  | .local _ .vmem, ⟨23, _⟩ => ⟨S1x1x2000, .i32⟩
  | .local _ .vmem, ⟨24, _⟩ => ⟨S1x1x2000, .f32⟩
  | .local _ .vmem, ⟨25, _⟩ => ⟨S1x1x2000, .f32⟩
  | .local _ .vmem, ⟨26, _⟩ => ⟨S512x1, .f32⟩
  | .local _ .vmem, ⟨27, _⟩ => ⟨S512x1, .f32⟩
  | .local _ .vmem, ⟨28, _⟩ => ⟨S512x256, .f32⟩
  | .local _ .vmem, ⟨29, _⟩ => ⟨S512x256, .f32⟩
  | .local _ .vmem, ⟨30, _⟩ => ⟨S512x1, .f32⟩
  | .local _ .vmem, ⟨31, _⟩ => ⟨S512x256, .f32⟩
  | .local _ .vmem, ⟨32, _⟩ => ⟨S768x256, .f32⟩
  | .local _ .vmem, ⟨33, _⟩ => ⟨S768x256, .f32⟩
  | .local _ .vmem, ⟨34, _⟩ => ⟨S768, .f32⟩
  | .local _ .vmem, ⟨35, _⟩ => ⟨S768, .f32⟩
  | .local _ .vmem, ⟨36, _⟩ => ⟨S512x256, .f32⟩
  | .local _ .vmem, ⟨37, _⟩ => ⟨S2000x256, .f32⟩
  | .local _ .vmem, ⟨38, _⟩ => ⟨S2000x256, .f32⟩
  | .local _ .vmem, ⟨39, _⟩ => ⟨S512x256, .f32⟩
  | .local _ .vmem, ⟨40, _⟩ => ⟨S1x1x2000, .i32⟩
  | .local _ .vmem, ⟨41, _⟩ => ⟨S1x1x2000, .i32⟩
  | .local _ .vmem, ⟨42, _⟩ => ⟨S1x1x2000, .f32⟩
  | .local _ .vmem, ⟨43, _⟩ => ⟨S1x1x2000, .f32⟩
  | .local _ .vmem, ⟨44, _⟩ => ⟨S512x1, .f32⟩
  | .local _ .vmem, ⟨45, _⟩ => ⟨S2000x256, .f32⟩
  | .local _ .vmem, ⟨46, _⟩ => ⟨S2000x256, .f32⟩
  | .local _ .vmem, ⟨47, _⟩ => ⟨S1x1x2000, .i32⟩
  | .local _ .vmem, ⟨48, _⟩ => ⟨S1x1x2000, .i32⟩
  | .local _ .vmem, ⟨49, _⟩ => ⟨S1x1x2000, .f32⟩
  | .local _ .vmem, ⟨50, _⟩ => ⟨S1x1x2000, .f32⟩
  | .local _ .vmem, ⟨51, _⟩ => ⟨S512x1, .f32⟩
  | .local _ .vmem, ⟨52, _⟩ => ⟨S512x1, .f32⟩
  | .local _ .vmem, ⟨53, _⟩ => ⟨S512x256, .f32⟩
  | .local _ .vmem, ⟨54, _⟩ => ⟨S512x256, .f32⟩
  | .local _ .vmem, ⟨55, _⟩ => ⟨S512x1, .f32⟩
  | .local _ .vmem, ⟨56, _⟩ => ⟨S512x256, .f32⟩
  | .local _ .vmem, ⟨57, _⟩ => ⟨S768x256, .f32⟩
  | .local _ .vmem, ⟨58, _⟩ => ⟨S768x256, .f32⟩
  | .local _ .vmem, ⟨59, _⟩ => ⟨S768, .f32⟩
  | .local _ .vmem, ⟨60, _⟩ => ⟨S768, .f32⟩
  | .local _ .vmem, ⟨61, _⟩ => ⟨S512x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc7_stg6_0 : Ref sig .tc := ⟨.vmem, 60, rfl⟩
abbrev cc7_stg7_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc4_sem0_0 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem7_0 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem5_0 : DmaSem sig := 53
abbrev cc7_sem0_0 : DmaSem sig := 54
abbrev cc7_sem1_0 : DmaSem sig := 55
abbrev cc7_sem2_0 : DmaSem sig := 56
abbrev cc7_sem3_0 : DmaSem sig := 57
abbrev cc7_sem4_0 : DmaSem sig := 58
abbrev cc7_sem5_0 : DmaSem sig := 59
abbrev cc7_sem6_0 : DmaSem sig := 60
abbrev cc7_sem7_0 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1x2000 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x2000 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x2000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := .none

abbrev stage4_0 : Fin 1 → Memref sig .tc .vmem S512x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S512x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S768x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S768x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S768 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S512x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x1x2000 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x2000 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S512x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x2000 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x2000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S512x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := .none

abbrev stage7_0 : Fin 1 → Memref sig .tc .vmem S512x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S512x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S512x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S768x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S768x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S768 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S768 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S512x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S256x256 : Shape := ⟨2, ![256, 256]⟩
abbrev S768x256 : Shape := ⟨2, ![768, 256]⟩
abbrev S768 : Shape := ⟨1, ![768]⟩
abbrev S_ : Shape := ⟨0, ![]⟩
abbrev S512 : Shape := ⟨1, ![512]⟩
abbrev S50000x1 : Shape := ⟨2, ![50000, 1]⟩
abbrev S512x256 : Shape := ⟨2, ![512, 256]⟩
abbrev S512x1 : Shape := ⟨2, ![512, 1]⟩
abbrev S1x50000 : Shape := ⟨2, ![1, 50000]⟩
abbrev S512x50000 : Shape := ⟨2, ![512, 50000]⟩
abbrev S256x768 : Shape := ⟨2, ![256, 768]⟩
abbrev S512x768 : Shape := ⟨2, ![512, 768]⟩
abbrev S1x768 : Shape := ⟨2, ![1, 768]⟩

abbrev nBuf : Space → Nat
  | .hbm => 251
  | .vmem => 0
  | .smem => 0
  | _ => 0

abbrev hbmTy0_0 (i : Nat) : BufTy := match i % 128 with
  | 0 => ⟨S50000x256, .f32⟩
  | 1 => ⟨S50000, .i32⟩
  | 2 => ⟨S256x256, .f32⟩
  | 3 => ⟨S768x256, .f32⟩
  | 4 => ⟨S768x256, .f32⟩
  | 5 => ⟨S768, .f32⟩
  | 6 => ⟨S768, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512x256, .f32⟩
  | 15 => ⟨S50000x1, .i32⟩
  | 16 => ⟨S512x256, .f32⟩
  | 17 => ⟨S_, .f32⟩
  | 18 => ⟨S512, .f32⟩
  | 19 => ⟨S512, .f32⟩
  | 20 => ⟨S512x1, .f32⟩
  | 21 => ⟨S512x256, .f32⟩
  | 22 => ⟨S512x256, .f32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x256, .f32⟩
  | 32 => ⟨S256x256, .f32⟩
  | 33 => ⟨S50000x256, .f32⟩
  | 34 => ⟨S50000x256, .f32⟩
  | 35 => ⟨S_, .f32⟩
  | 36 => ⟨S50000, .f32⟩
  | 37 => ⟨S1x50000, .i32⟩
  | 38 => ⟨S512, .i32⟩
  | 39 => ⟨S512x1, .i32⟩
  | 40 => ⟨S512x50000, .i32⟩
  | 41 => ⟨S512x50000, .i32⟩
  | 42 => ⟨S512x50000, .i1⟩
  | 43 => ⟨S1x50000, .f32⟩
  | 44 => ⟨S_, .f32⟩
  | 45 => ⟨S_, .f32⟩
  | 46 => ⟨S512x50000, .f32⟩
  | 47 => ⟨S512x50000, .f32⟩
  | 48 => ⟨S512x50000, .f32⟩
  | 49 => ⟨S_, .f32⟩
  | 50 => ⟨S512, .f32⟩
  | 51 => ⟨S512, .f32⟩
  | 52 => ⟨S_, .f32⟩
  | 53 => ⟨S512, .f32⟩
  | 54 => ⟨S512, .i1⟩
  | 55 => ⟨S_, .f32⟩
  | 56 => ⟨S_, .f32⟩
  | 57 => ⟨S512, .f32⟩
  | 58 => ⟨S512, .f32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000, .f32⟩
  | 68 => ⟨S50000, .f32⟩
  | 69 => ⟨S50000, .f32⟩
  | 70 => ⟨S_, .f32⟩
  | 71 => ⟨S512, .f32⟩
  | 72 => ⟨S50000x1, .i32⟩
  | 73 => ⟨S512, .f32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S50000x1, .f32⟩
  | 88 => ⟨S50000x256, .f32⟩
  | 89 => ⟨S50000x256, .f32⟩
  | 90 => ⟨S_, .f32⟩
  | 91 => ⟨S512x256, .f32⟩
  | 92 => ⟨S50000x1, .i32⟩
  | 93 => ⟨S512x256, .f32⟩
  | 94 => ⟨S256x768, .f32⟩
  | 95 => ⟨S512x768, .f32⟩
  | 96 => ⟨S1x768, .f32⟩
  | 97 => ⟨S512x768, .f32⟩
  | 98 => ⟨S512x768, .f32⟩
  | 99 => ⟨S256x768, .f32⟩
  | 100 => ⟨S512x768, .f32⟩
  | 101 => ⟨S1x768, .f32⟩
  | 102 => ⟨S512x768, .f32⟩
  | 103 => ⟨S512x768, .f32⟩
  | 104 => ⟨S512x256, .f32⟩
  | 105 => ⟨S512x256, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S512x256, .f32⟩
  | 112 => ⟨S512x256, .f32⟩
  | 113 => ⟨S_, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S512x256, .f32⟩
  | 121 => ⟨S512x256, .f32⟩
  | 122 => ⟨S_, .f32⟩
  | 123 => ⟨S512x256, .f32⟩
  | 124 => ⟨S512x256, .f32⟩
  | 125 => ⟨S_, .f32⟩
  | 126 => ⟨S512x256, .f32⟩
  | 127 => ⟨S512x256, .f32⟩
  | _ => ⟨S50000x256, .f32⟩

abbrev hbmTy0_1 (i : Nat) : BufTy := match i % 128 with
  | 0 => ⟨S512x256, .f32⟩
  | 1 => ⟨S512x256, .f32⟩
  | 2 => ⟨S512x256, .f32⟩
  | 3 => ⟨S_, .f32⟩
  | 4 => ⟨S512x256, .f32⟩
  | 5 => ⟨S512x256, .f32⟩
  | 6 => ⟨S512x256, .f32⟩
  | 7 => ⟨S512x256, .f32⟩
  | 8 => ⟨S512x256, .f32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S50000x256, .f32⟩
  | 18 => ⟨S256x256, .f32⟩
  | 19 => ⟨S50000x256, .f32⟩
  | 20 => ⟨S50000x256, .f32⟩
  | 21 => ⟨S_, .f32⟩
  | 22 => ⟨S50000, .f32⟩
  | 23 => ⟨S1x50000, .i32⟩
  | 24 => ⟨S512, .i32⟩
  | 25 => ⟨S512x1, .i32⟩
  | 26 => ⟨S512x50000, .i32⟩
  | 27 => ⟨S512x50000, .i32⟩
  | 28 => ⟨S512x50000, .i1⟩
  | 29 => ⟨S1x50000, .f32⟩
  | 30 => ⟨S_, .f32⟩
  | 31 => ⟨S_, .f32⟩
  | 32 => ⟨S512x50000, .f32⟩
  | 33 => ⟨S512x50000, .f32⟩
  | 34 => ⟨S512x50000, .f32⟩
  | 35 => ⟨S_, .f32⟩
  | 36 => ⟨S512, .f32⟩
  | 37 => ⟨S512, .f32⟩
  | 38 => ⟨S_, .f32⟩
  | 39 => ⟨S512, .f32⟩
  | 40 => ⟨S512, .i1⟩
  | 41 => ⟨S_, .f32⟩
  | 42 => ⟨S_, .f32⟩
  | 43 => ⟨S512, .f32⟩
  | 44 => ⟨S512, .f32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000, .f32⟩
  | 54 => ⟨S50000, .f32⟩
  | 55 => ⟨S50000, .f32⟩
  | 56 => ⟨S_, .f32⟩
  | 57 => ⟨S512, .f32⟩
  | 58 => ⟨S50000x1, .i32⟩
  | 59 => ⟨S512, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S_, .f32⟩
  | 77 => ⟨S512x256, .f32⟩
  | 78 => ⟨S50000x1, .i32⟩
  | 79 => ⟨S512x256, .f32⟩
  | 80 => ⟨S256x768, .f32⟩
  | 81 => ⟨S512x768, .f32⟩
  | 82 => ⟨S1x768, .f32⟩
  | 83 => ⟨S512x768, .f32⟩
  | 84 => ⟨S512x768, .f32⟩
  | 85 => ⟨S256x768, .f32⟩
  | 86 => ⟨S512x768, .f32⟩
  | 87 => ⟨S1x768, .f32⟩
  | 88 => ⟨S512x768, .f32⟩
  | 89 => ⟨S512x768, .f32⟩
  | 90 => ⟨S512x256, .f32⟩
  | 91 => ⟨S512x256, .f32⟩
  | 92 => ⟨S512x256, .f32⟩
  | 93 => ⟨S512x256, .f32⟩
  | 94 => ⟨S512x256, .f32⟩
  | 95 => ⟨S512x256, .f32⟩
  | 96 => ⟨S512x256, .f32⟩
  | 97 => ⟨S512x256, .f32⟩
  | 98 => ⟨S512x256, .f32⟩
  | 99 => ⟨S_, .f32⟩
  | 100 => ⟨S512x256, .f32⟩
  | 101 => ⟨S512x256, .f32⟩
  | 102 => ⟨S_, .f32⟩
  | 103 => ⟨S512x256, .f32⟩
  | 104 => ⟨S512x256, .f32⟩
  | 105 => ⟨S512x256, .f32⟩
  | 106 => ⟨S512x256, .f32⟩
  | 107 => ⟨S512x256, .f32⟩
  | 108 => ⟨S_, .f32⟩
  | 109 => ⟨S512x256, .f32⟩
  | 110 => ⟨S512x256, .f32⟩
  | 111 => ⟨S_, .f32⟩
  | 112 => ⟨S512x256, .f32⟩
  | 113 => ⟨S512x256, .f32⟩
  | 114 => ⟨S512x256, .f32⟩
  | 115 => ⟨S512x256, .f32⟩
  | 116 => ⟨S512x256, .f32⟩
  | 117 => ⟨S_, .f32⟩
  | 118 => ⟨S512x256, .f32⟩
  | 119 => ⟨S512x256, .f32⟩
  | 120 => ⟨S512x256, .f32⟩
  | 121 => ⟨S512x256, .f32⟩
  | 122 => ⟨S512x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_cst_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v120 : Ref sig .tc := ⟨.hbm, 162, rfl⟩
abbrev main_cst_25 : Ref sig .tc := ⟨.hbm, 163, rfl⟩
abbrev main_v121 : Ref sig .tc := ⟨.hbm, 164, rfl⟩
abbrev main_v122 : Ref sig .tc := ⟨.hbm, 165, rfl⟩
abbrev main_cst_26 : Ref sig .tc := ⟨.hbm, 166, rfl⟩
abbrev main_v123 : Ref sig .tc := ⟨.hbm, 167, rfl⟩
abbrev main_v124 : Ref sig .tc := ⟨.hbm, 168, rfl⟩
abbrev main_cst_27 : Ref sig .tc := ⟨.hbm, 169, rfl⟩
abbrev main_call3_v0 : Ref sig .tc := ⟨.hbm, 170, rfl⟩
abbrev main_call3_v1 : Ref sig .tc := ⟨.hbm, 171, rfl⟩
abbrev main_v125 : Ref sig .tc := ⟨.hbm, 172, rfl⟩
abbrev main_c_28 : Ref sig .tc := ⟨.hbm, 173, rfl⟩
abbrev main_v126 : Ref sig .tc := ⟨.hbm, 174, rfl⟩
abbrev main_v127 : Ref sig .tc := ⟨.hbm, 175, rfl⟩
abbrev main_c_29 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_30 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_31 : Ref sig .tc := ⟨.hbm, 188, rfl⟩
abbrev main_v138 : Ref sig .tc := ⟨.hbm, 189, rfl⟩
abbrev main_v139 : Ref sig .tc := ⟨.hbm, 190, rfl⟩
abbrev main_c_32 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_33 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_34 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_35 : Ref sig .tc := ⟨.hbm, 227, rfl⟩
abbrev main_v173 : Ref sig .tc := ⟨.hbm, 228, rfl⟩
abbrev main_v174 : Ref sig .tc := ⟨.hbm, 229, rfl⟩
abbrev main_cst_36 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_cst_37 : Ref sig .tc := ⟨.hbm, 236, rfl⟩
abbrev main_v180 : Ref sig .tc := ⟨.hbm, 237, rfl⟩
abbrev main_v181 : Ref sig .tc := ⟨.hbm, 238, rfl⟩
abbrev main_cst_38 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_39 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩

abbrev nD : Nat := 1
abbrev τ : Topo := Topo.v7x

variable {F : FTy → Type} [FloatOps F]
-- ==== Proof.Math.lean ====
/- The readout over the extended reals, by rows and graphs: a row `n` of `N` belongs to graph `g` when its batch word is
   `g`'s number. What the kernel computes, and the laws that make it the segment form the reference computes. -/
module

public import Idealize.ShloMosaic.PureOps.Ideal
public import Idealize.ShloMosaic.PureOps.Ideal.Laws

@[expose] public section

noncomputable section

namespace Readout

open Idealize.ShloMosaic

/-- Graph `g`'s number as a batch word. -/
abbrev word (g : Fin 512) : BitVec 32 := BitVec.ofNat 32 g.val

theorem word_inj {g h : Fin 512} (e : word g = word h) : g = h := by
  have e' := congrArg BitVec.toNat e
  simp only [word, BitVec.toNat_ofNat] at e'
  apply Fin.ext
  have := g.isLt
  have := h.isLt
  omega

/-- A sum over the graphs that keeps only the graph of a batch word is that graph's term. -/
theorem sum_word {b : BitVec 32} {g : Fin 512} (h : word g = b) (f : Fin 512 → EReal) :
    (∑ g' : Fin 512, if word g' = b then f g' else 0) = f g := by
  rw [Finset.sum_eq_single g, if_pos h]
  · intro g' _ hne
    exact if_neg fun h' => hne (word_inj (h'.trans h.symm))
  · intro hn
    exact absurd (Finset.mem_univ g) hn

/-- An infinity replaced by zero. -/
def fix (x : EReal) : EReal := if x = ⊤ ∨ x = ⊥ then 0 else x

variable {N : ℕ}

/-- The row's own inner product with graph `g`. -/
def dot (G : Fin 512 → Fin 256 → EReal) (A : Fin N → Fin 256 → EReal) (g : Fin 512) (n : Fin N) : EReal :=
  ∑ k : Fin 256, G g k * A n k

/-- The number of rows of graph `g`. -/
def cnt (B : Fin N → BitVec 32) (g : Fin 512) : EReal := ∑ n : Fin N, if word g = B n then 1 else 0

/-- The sum of graph `g`'s rows. -/
def total (B : Fin N → BitVec 32) (X : Fin N → Fin 256 → EReal) (g : Fin 512) (k : Fin 256) : EReal :=
  ∑ n : Fin N, if word g = B n then X n k else 0

/-- The row's score: its inner product with its graph's features. -/
def score (B : Fin N → BitVec 32) (G : Fin 512 → Fin 256 → EReal) (A : Fin N → Fin 256 → EReal) (n : Fin N) : EReal :=
  ∑ g : Fin 512, if word g = B n then dot G A g n else 0

/-- The largest inner product over graph `g`'s rows. -/
def top (B : Fin N → BitVec 32) (G : Fin 512 → Fin 256 → EReal) (A : Fin N → Fin 256 → EReal) (g : Fin 512) : EReal :=
  Finset.univ.fold max ⊥ fun n : Fin N => if word g = B n then dot G A g n else ⊥

/-- The row's weight before division, at its own graph; zero at every other. -/
def wt (B : Fin N → BitVec 32) (M : Fin 512 → EReal) (S : Fin N → EReal) (g : Fin 512) (n : Fin N) : EReal :=
  if word g = B n then Ideal.exp (S n - ∑ g' : Fin 512, if word g' = B n then fix (M g') else 0) else 0

def wsum (B : Fin N → BitVec 32) (M : Fin 512 → EReal) (S : Fin N → EReal) (g : Fin 512) : EReal :=
  ∑ n : Fin N, wt B M S g n

def wctx (B : Fin N → BitVec 32) (M : Fin 512 → EReal) (S : Fin N → EReal) (X : Fin N → Fin 256 → EReal) (g : Fin 512)
    (k : Fin 256) : EReal := ∑ n : Fin N, wt B M S g n * X n k

theorem exp_nonneg (x : EReal) : 0 ≤ Ideal.exp x := by
  induction x with
  | bot => exact le_refl _
  | top => exact le_top
  | coe x => exact EReal.coe_nonneg.mpr (Real.exp_nonneg x)

theorem wt_nonneg (B : Fin N → BitVec 32) (M : Fin 512 → EReal) (S : Fin N → EReal) (g : Fin 512) (n : Fin N) :
    0 ≤ wt B M S g n := by
  unfold wt
  split
  · exact exp_nonneg _
  · exact le_refl _

theorem wsum_nonneg (B : Fin N → BitVec 32) (M : Fin 512 → EReal) (S : Fin N → EReal) (g : Fin 512) : 0 ≤ wsum B M S g :=
  Finset.sum_nonneg fun n _ => wt_nonneg B M S g n

/-- A nonnegative finite factor distributes over a sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- Division by a positive extended real is multiplication by a nonnegative real. -/
theorem div_pos_eq {d : EReal} (hd : 0 < d) : ∃ c : ℝ, 0 ≤ c ∧ ∀ x : EReal, Ideal.div x d = x * (c : EReal) := by
  have h0 : d ≠ 0 := hd.ne'
  induction d with
  | bot => exact absurd hd (by simp)
  | top => exact ⟨0, le_refl _, fun x => by simp [Ideal.div, h0]⟩
  | coe r =>
    refine ⟨r⁻¹, inv_nonneg.mpr (EReal.coe_pos.mp hd).le, fun x => ?_⟩
    unfold Ideal.div
    rw [if_neg h0, EReal.coe_inv]

/-- Dividing each weight before the weighted sum or the sum after it is the same. -/
theorem sum_div {ι : Type*} (s : Finset ι) (e x : ι → EReal) {d : EReal} (hd : 0 < d) :
    Ideal.div (∑ i ∈ s, e i * x i) d = ∑ i ∈ s, x i * Ideal.div (e i) d := by
  obtain ⟨c, hc, h⟩ := div_pos_eq hd
  rw [h, sum_mul_coe s _ hc]
  refine Finset.sum_congr rfl fun i _ => ?_
  rw [h, mul_comm (e i), mul_assoc]

/-- The recurrent cell at graph `g`, lane `k`, from the context's and the features' gate sums. -/
def gate (C : Fin 256 → EReal) (w : Fin 768 → Fin 256 → EReal) (b : Fin 768 → EReal) (r : Fin 768) : EReal :=
  (∑ j : Fin 256, C j * w r j) + b r

def cell (C H : Fin 256 → EReal) (wi wh : Fin 768 → Fin 256 → EReal) (bi bh : Fin 768 → EReal) (k : Fin 256) : EReal :=
  (1 - Ideal.logistic (gate C wi bi ⟨256 + k.val, by omega⟩ + gate H wh bh ⟨256 + k.val, by omega⟩))
      * Ideal.tanh (gate C wi bi ⟨512 + k.val, by omega⟩
          + Ideal.logistic (gate C wi bi ⟨k.val, by omega⟩ + gate H wh bh ⟨k.val, by omega⟩) * gate H wh bh ⟨512 + k.val, by omega⟩)
    + Ideal.logistic (gate C wi bi ⟨256 + k.val, by omega⟩ + gate H wh bh ⟨256 + k.val, by omega⟩) * H k

/-- The literal added to a divisor. -/
abbrev eps : EReal := Ideal.ofBits .f32 0x24E69595#32

theorem eps_pos : 0 < eps := by
  simp [eps, Ideal.ofBits, Ideal.ieee]
  norm_cast
  positivity

/-! ## Rows by blocks of 2000 -/

/-- Row `n` of block `t`. -/
abbrev row (t : Fin 25) (n : Fin 2000) : Fin 50000 := ⟨2000 * t.val + n.val, by omega⟩

theorem exists_row (i : Fin 50000) : ∃ (t : Fin 25) (n : Fin 2000), row t n = i :=
  ⟨⟨i.val / 2000, by omega⟩, ⟨i.val % 2000, by omega⟩, Fin.ext (by show 2000 * (i.val / 2000) + i.val % 2000 = i.val; omega)⟩

/-- The sum over the rows is the sum of the blocks' sums. -/
theorem sum_rows (f : Fin 50000 → EReal) : (∑ t : Fin 25, ∑ n : Fin 2000, f (row t n)) = ∑ i : Fin 50000, f i := by
  rw [← Fintype.sum_prod_type']
  refine Fintype.sum_equiv (finProdFinEquiv (m := 25) (n := 2000)) _ _ fun x => ?_
  congr 1
  exact Fin.ext (by simp [finProdFinEquiv]; omega)

/-- A maximum over the rows is the maximum of the blocks' maxima. -/
theorem max_rows (f : Fin 50000 → EReal) :
    (Finset.univ.fold max ⊥ fun t : Fin 25 => Finset.univ.fold max ⊥ fun n : Fin 2000 => f (row t n)) = Finset.univ.fold max ⊥ f := by
  show (Finset.univ.sup fun t : Fin 25 => Finset.univ.sup fun n : Fin 2000 => f (row t n)) = Finset.univ.sup f
  apply le_antisymm
  · exact Finset.sup_le fun t _ => Finset.sup_le fun n _ => Finset.le_sup (f := f) (Finset.mem_univ _)
  · refine Finset.sup_le fun i _ => ?_
    obtain ⟨t, n, rfl⟩ := exists_row i
    exact (Finset.le_sup (f := fun n : Fin 2000 => f (row t n)) (Finset.mem_univ n)).trans
      (Finset.le_sup (f := fun t : Fin 25 => Finset.univ.sup fun n : Fin 2000 => f (row t n)) (Finset.mem_univ t))

/-- A maximum over one more index. -/
theorem max_succ {n : ℕ} (f : Fin (n + 1) → EReal) :
    Finset.univ.fold max ⊥ f = max (Finset.univ.fold max ⊥ fun s : Fin n => f s.castSucc) (f (Fin.last n)) := by
  show Finset.univ.sup f = max (Finset.univ.sup fun s : Fin n => f s.castSucc) (f (Fin.last n))
  apply le_antisymm
  · refine Finset.sup_le fun i _ => ?_
    induction i using Fin.lastCases with
    | last => exact le_max_right _ _
    | cast i => exact (Finset.le_sup (f := fun s : Fin n => f s.castSucc) (Finset.mem_univ i)).trans (le_max_left _ _)
  · exact max_le (Finset.sup_le fun i _ => Finset.le_sup (f := f) (Finset.mem_univ _)) (Finset.le_sup (f := f) (Finset.mem_univ _))

variable (B : Fin 50000 → BitVec 32) (X : Fin 50000 → Fin 256 → EReal) (G : Fin 512 → Fin 256 → EReal) (M : Fin 512 → EReal)
  (S : Fin 50000 → EReal)

theorem cnt_rows (g : Fin 512) : (∑ t : Fin 25, cnt (fun n => B (row t n)) g) = cnt B g :=
  sum_rows fun n => if word g = B n then 1 else 0

theorem total_rows (g : Fin 512) (k : Fin 256) :
    (∑ t : Fin 25, total (fun n => B (row t n)) (fun n => X (row t n)) g k) = total B X g k :=
  sum_rows fun n => if word g = B n then X n k else 0

theorem top_rows (g : Fin 512) :
    (Finset.univ.fold max ⊥ fun t : Fin 25 => top (fun n => B (row t n)) G (fun n => X (row t n)) g) = top B G X g :=
  max_rows fun n => if word g = B n then dot G X g n else ⊥

theorem wsum_rows (g : Fin 512) : (∑ t : Fin 25, wsum (fun n => B (row t n)) M (fun n => S (row t n)) g) = wsum B M S g :=
  sum_rows fun n => wt B M S g n

theorem wctx_rows (g : Fin 512) (k : Fin 256) :
    (∑ t : Fin 25, wctx (fun n => B (row t n)) M (fun n => S (row t n)) (fun n => X (row t n)) g k) = wctx B M S X g k :=
  sum_rows fun n => wt B M S g n * X n k

/-! ## The whole computation -/

/-- Every row times the attention matrix. -/
def attend (X : Fin 50000 → Fin 256 → EReal) (W : Fin 256 → Fin 256 → EReal) (n : Fin 50000) (k : Fin 256) : EReal :=
  ∑ j : Fin 256, X n j * W k j

/-- The mean row of each graph; zero for a graph of no rows. -/
def means (B : Fin 50000 → BitVec 32) (X : Fin 50000 → Fin 256 → EReal) (g : Fin 512) (k : Fin 256) : EReal :=
  Ideal.div (total B X g k) (max (cnt B g) 1)

/-- The mean of each graph's rows weighted by the softmax of their scores. -/
def context (B : Fin 50000 → BitVec 32) (X A : Fin 50000 → Fin 256 → EReal) (G : Fin 512 → Fin 256 → EReal) (g : Fin 512) (k : Fin 256) : EReal :=
  Ideal.div (wctx B (top B G A) (score B G A) X g k) (wsum B (top B G A) (score B G A) g + eps)

/-- One pass: the context through the recurrent cell. -/
def pass (B : Fin 50000 → BitVec 32) (X A : Fin 50000 → Fin 256 → EReal) (wi wh : Fin 768 → Fin 256 → EReal) (bi bh : Fin 768 → EReal)
    (G : Fin 512 → Fin 256 → EReal) (g : Fin 512) (k : Fin 256) : EReal :=
  cell (context B X A G g) (G g) wi wh bi bh k

/-- Two passes from the means. -/
def readout (B : Fin 50000 → BitVec 32) (X : Fin 50000 → Fin 256 → EReal) (W : Fin 256 → Fin 256 → EReal) (wi wh : Fin 768 → Fin 256 → EReal)
    (bi bh : Fin 768 → EReal) : Fin 512 → Fin 256 → EReal :=
  pass B X (attend X W) wi wh bi bh (pass B X (attend X W) wi wh bi bh (means B X))

end Readout
end
-- ==== Proof.Pay.lean ====
/- The kernel's stored values read at an index, over the extended reals. -/
module

public import proofs.«01_k».proof.Proof.Math
public import proofs.«01_k».proof.Proof.Gen.KernelIdeal.Skeleton
public import Idealize.ShloMosaic.Lib.Pointwise

@[expose] public section

set_option maxRecDepth 16384

noncomputable section

namespace Cert.KernelIdeal.Pay

open Idealize.ShloMosaic Idealize.SL.Sem
open Cert.KernelIdeal Cert.KernelIdeal.Gen Readout

/-! ## Blocks as functions of rows and lanes -/

abbrev mat {r c : ℕ} (x : FVec Ideal ⟨2, ![r, c]⟩ .f32) : Fin r → Fin c → EReal := fun a b => x (ix2 a b)
abbrev col {r : ℕ} (x : FVec Ideal ⟨2, ![r, 1]⟩ .f32) : Fin r → EReal := fun a => x (ix2 a 0)
abbrev vec {r : ℕ} (x : FVec Ideal ⟨1, ![r]⟩ .f32) : Fin r → EReal := fun a => x (ix1 a)
abbrev lane {r : ℕ} (x : FVec Ideal ⟨3, ![1, 1, r]⟩ .f32) : Fin r → EReal := fun a => x (ix3 0 0 a)
abbrev words {r : ℕ} (x : IVec ⟨3, ![1, 1, r]⟩ 32) : Fin r → BitVec 32 := fun a => x (ix3 0 0 a)

theorem select_eq {w : ℕ} {α : Type} (a b : BitVec w) (x y : α) :
    Scalar.select (IntOp.cmpi .eq a b) x y = if a = b then x else y := by
  by_cases h : a = b
  · simp [IntOp.cmpi, Scalar.select, h]
  · have hb : (a == b) = false := by simpa using h
    simp [IntOp.cmpi, Scalar.select, h, hb]

theorem indicator_eq (a b : BitVec 32) :
    (FloatOps.sitofp .f32 (BitVec.setWidth 32 (IntOp.cmpi .eq a b)) : Ideal .f32) = if a = b then (1 : EReal) else 0 := by
  by_cases h : a = b
  · subst h
    show ((((BitVec.setWidth 32 (IntOp.cmpi .eq a a)).toInt : ℝ)) : EReal) = _
    simp [IntOp.cmpi]
  · show ((((BitVec.setWidth 32 (IntOp.cmpi .eq a b)).toInt : ℝ)) : EReal) = _
    have hb : (a == b) = false := by simpa using h
    simp [IntOp.cmpi, h, hb]

theorem neg_inf : Ideal.ofBits .f32 0xFF800000#32 = (⊥ : EReal) := by simp [Ideal.ofBits, Ideal.ieee]

theorem fix_eq (x : Ideal .f32) :
    Scalar.select (IntOp.xori (FloatOps.weird x) 1#1) x (0 : EReal) = fix x := by
  show Scalar.select (IntOp.xori (BitVec.ofBool (decide ((x : EReal) = ⊤ ∨ (x : EReal) = ⊥))) 1#1) x (0 : EReal) = _
  unfold fix
  by_cases h : (x : EReal) = ⊤ ∨ (x : EReal) = ⊥ <;> simp [h, IntOp.xori, Scalar.select]

/-! ## The stored values -/

theorem pay_att (x : Vec Ideal S2000x256 .f32) (w : Vec Ideal S256x256 .f32) (r : Fin 2000) (k : Fin 256) :
    k0_pay1 x w (ix2 r k) = ∑ j : Fin 256, x (ix2 r j) * w (ix2 k j) := by
  pointwise [k0_pay1]

theorem pay_count (b : Vec Ideal S1x1x2000 .i32) (a : Vec Ideal S512x1 .f32) (g : Fin 512) :
    k0_pay5 (F := Ideal) b a (ix2 g 0) = a (ix2 g 0) + cnt (words b) g := by
  pointwise [k0_pay5, k0_pay2]
  unfold cnt
  simp only [indicator_eq]

theorem pay_total (x : Vec Ideal S2000x256 .f32) (b : Vec Ideal S1x1x2000 .i32) (a : Vec Ideal S512x256 .f32) (g : Fin 512) (k : Fin 256) :
    k0_pay6 x b a (ix2 g k) = a (ix2 g k) + total (words b) (mat x) g k := by
  pointwise [k0_pay6, k0_pay2]
  unfold total
  simp only [indicator_eq, ite_mul, one_mul, zero_mul]

theorem pay_zero1 (g : Fin 512) : k0_pay3 (F := Ideal) (ix2 g 0) = 0 := by
  pointwise [k0_pay3]

theorem pay_zero2 (g : Fin 512) (k : Fin 256) : k0_pay4 (F := Ideal) (ix2 g k) = 0 := by
  pointwise [k0_pay4]

theorem pay_gf (x : Vec Ideal S512x256 .f32) (c : Vec Ideal S512x1 .f32) (g : Fin 512) (k : Fin 256) :
    k1_pay1 x c (ix2 g k) = Ideal.div (x (ix2 g k)) (max (c (ix2 g 0)) 1) := by
  pointwise [k1_pay1]

theorem pay_score (gf : Vec Ideal S512x256 .f32) (att : Vec Ideal S2000x256 .f32) (b : Vec Ideal S1x1x2000 .i32) (n : Fin 2000) :
    k2_pay3 gf att b (ix3 0 0 n) = score (words b) (mat gf) (mat att) n := by
  pointwise [k2_pay3, k2_pay2, k2_pay1]
  simp only [select_eq]
  rfl

theorem pay_bot (g : Fin 512) : k2_pay4 (F := Ideal) (ix2 g 0) = ⊥ := by
  pointwise [k2_pay4]
  exact neg_inf

theorem pay_max (gf : Vec Ideal S512x256 .f32) (att : Vec Ideal S2000x256 .f32) (b : Vec Ideal S1x1x2000 .i32) (a : Vec Ideal S512x1 .f32) (g : Fin 512) :
    k2_pay5 gf att b a (ix2 g 0) = max (a (ix2 g 0)) (top (words b) (mat gf) (mat att) g) := by
  pointwise [k2_pay5, k2_pay2, k2_pay1]
  simp only [select_eq, neg_inf]
  rfl

theorem pay_wt (b : Vec Ideal S1x1x2000 .i32) (m : Vec Ideal S512x1 .f32) (s : Vec Ideal S1x1x2000 .f32) (g : Fin 512) (n : Fin 2000) :
    k3_pay2 b m s (ix2 g n) = wt (words b) (col m) (lane s) g n := by
  pointwise [k3_pay2]
  simp only [select_eq, indicator_eq, fix_eq, ite_mul, one_mul, zero_mul]
  rfl

theorem pay_wsum (b : Vec Ideal S1x1x2000 .i32) (m : Vec Ideal S512x1 .f32) (s : Vec Ideal S1x1x2000 .f32) (a : Vec Ideal S512x1 .f32) (g : Fin 512) :
    k3_pay6 b m s a (ix2 g 0) = a (ix2 g 0) + wsum (words b) (col m) (lane s) g := by
  pointwise [k3_pay6]
  simp only [pay_wt]
  rfl

theorem pay_wctx (b : Vec Ideal S1x1x2000 .i32) (m : Vec Ideal S512x1 .f32) (s : Vec Ideal S1x1x2000 .f32) (x : Vec Ideal S2000x256 .f32)
    (a : Vec Ideal S512x256 .f32) (g : Fin 512) (k : Fin 256) :
    k3_pay1 (k3_pay3 b m s x) a (ix2 g k) = a (ix2 g k) + wctx (words b) (col m) (lane s) (mat x) g k := by
  pointwise [k3_pay1, k3_pay3]
  simp only [pay_wt]
  rfl

theorem pay_zero3 (g : Fin 512) : k3_pay4 (F := Ideal) (ix2 g 0) = 0 := by
  pointwise [k3_pay4]

theorem pay_zero4 (g : Fin 512) (k : Fin 256) : k3_pay5 (F := Ideal) (ix2 g k) = 0 := by
  pointwise [k3_pay5]

theorem pay_cell (x : Vec Ideal S512x256 .f32) (s : Vec Ideal S512x1 .f32) (h : Vec Ideal S512x256 .f32) (wi wh : Vec Ideal S768x256 .f32)
    (bi bh : Vec Ideal S768 .f32) (g : Fin 512) (k : Fin 256) :
    k4_pay1 x s h wi bi wh bh (ix2 g k)
      = cell (fun j => Ideal.div (x (ix2 g j)) (s (ix2 g 0) + eps)) (fun j => h (ix2 g j)) (mat wi) (mat wh) (vec bi) (vec bh) k := by
  pointwise [k4_pay1]
  rfl

end Cert.KernelIdeal.Pay
end
-- ==== Proof.Blocks.lean ====
/- The blocked arrays read by row. -/
module

public import proofs.«01_k».proof.Proof.Pay

@[expose] public section

noncomputable section

namespace Cert.KernelIdeal.Blocks

open Idealize.ShloMosaic Cert.KernelIdeal Readout

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An array of 25 blocks of 2000 as one of 50000. -/
def unblock {α : Type} (b : S25x1x2000.Idx → α) (i : Fin 50000) : α :=
  b (ix3 ⟨i.val / 2000, by omega⟩ 0 ⟨i.val % 2000, by omega⟩)

theorem unblock_row {α : Type} (b : S25x1x2000.Idx → α) (t : Fin 25) (n : Fin 2000) : unblock b (row t n) = b (ix3 t 0 n) := by
  show b (ix3 ⟨(2000 * t.val + n.val) / 2000, _⟩ 0 ⟨(2000 * t.val + n.val) % 2000, _⟩) = _
  congr 2 <;> apply Fin.ext <;> simp <;> omega

/-- And back. -/
def block {α : Type} (f : Fin 50000 → α) : S25x1x2000.Idx → α := fun i => f (row (i 0) (i 2))

theorem unblock_block {α : Type} (f : Fin 50000 → α) : unblock (block f) = f := by
  funext i
  obtain ⟨t, n, rfl⟩ := exists_row i
  rw [unblock_row]
  rfl

end Cert.KernelIdeal.Blocks
end
-- ==== Proof.Reg0.lean ====
/- The first kernel call: the attended rows, the rows' count and their sum per graph. -/
module

public import proofs.«01_k».proof.Proof.Blocks
public import proofs.«01_k».proof.Proof.Gen.KernelIdeal.Frame.Region0
public import Idealize.ShloMosaic.Lib.Pipeline.Value
public import Idealize.ShloMosaic.Lib.Tactic

@[expose] public section

set_option maxRecDepth 16384

noncomputable section

namespace Cert.KernelIdeal.Reg0

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

section Out
variable {F : FTy → Type} [FloatOps F]
variable (c : Dev nD) (i : grid0.Coords)
  (a1 : Memref sig .tc .vmem S2000x256 .f32) (h1 : a1.IsWhole) (a2 : Memref sig .tc .vmem S256x256 .f32) (h2 : a2.IsWhole)
  (a3 : Memref sig .tc .vmem S1x1x2000 .i32) (h3 : a3.IsWhole) (a4 : Memref sig .tc .vmem S2000x256 .f32) (h4 : a4.IsWhole)
  (a5 : Memref sig .tc .vmem S512x1 .f32) (h5 : a5.IsWhole) (a6 : Memref sig .tc .vmem S512x256 .f32) (h6 : a6.IsWhole)
  (x0 : Vec F S2000x256 .f32) (x1 : Vec F S256x256 .f32) (x2 : Vec F S1x1x2000 .i32) (xo4 : Vec F S512x1 .f32) (xo5 : Vec F S512x256 .f32)

theorem out_A_3 (hc : cond0_0 i) : out0_A_3 c i a1 h1 a2 h2 a3 h3 a4 h4 a5 h5 a6 h6 hc x0 x1 x2 = k0_pay1 x0 x1 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz2]
  simp only [View.readAt_eq_ld, h1.read_unread, h2.read_unread, View.ld_unit_zero (S := S2000x256) hz2, View.ld_unit_zero (S := S256x256) hz2]

theorem out_A_4 (hc : cond0_0 i) : out0_A_4 c i a1 h1 a2 h2 a3 h3 a4 h4 a5 h5 a6 h6 hc x0 x1 x2 = k0_pay5 x2 k0_pay3 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S512x1) hz2, View.readCov_unit_zero (S := S512x1) _ hz2]
  simp only [View.readAt_eq_ld, h3.read_unread, View.ld_unit_zero (S := S1x1x2000) hz3]

theorem out_A_5 (hc : cond0_0 i) : out0_A_5 c i a1 h1 a2 h2 a3 h3 a4 h4 a5 h5 a6 h6 hc x0 x1 x2 = k0_pay6 x0 x2 k0_pay4 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S512x256) hz2, View.readCov_unit_zero (S := S512x256) _ hz2]
  simp only [View.readAt_eq_ld, h1.read_unread, h3.read_unread, View.ld_unit_zero (S := S2000x256) hz2, View.ld_unit_zero (S := S1x1x2000) hz3]

theorem out_B_3 (hc : ¬cond0_0 i) : out0_B_3 c i a1 h1 a2 h2 a3 h3 a4 h4 a5 h5 a6 h6 hc x0 x1 x2 xo4 xo5 = k0_pay1 x0 x1 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h2.read_unread, View.ld_unit_zero (S := S2000x256) hz2, View.ld_unit_zero (S := S256x256) hz2]

theorem out_B_4 (hc : ¬cond0_0 i) : out0_B_4 c i a1 h1 a2 h2 a3 h3 a4 h4 a5 h5 a6 h6 hc x0 x1 x2 xo4 xo5 = k0_pay5 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h3.read_unread, h5.read_unread, View.ld_unit_zero (S := S1x1x2000) hz3, View.ld_unit_zero (S := S512x1) hz2]

theorem out_B_5 (hc : ¬cond0_0 i) : out0_B_5 c i a1 h1 a2 h2 a3 h3 a4 h4 a5 h5 a6 h6 hc x0 x1 x2 xo4 xo5 = k0_pay6 x0 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h3.read_unread, h6.read_unread, View.ld_unit_zero (S := S2000x256) hz2,
    View.ld_unit_zero (S := S1x1x2000) hz3, View.ld_unit_zero (S := S512x256) hz2]

end Out

/-! ## The blocks read off the arrays -/

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 ∧ win0_2.index t 2 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel

/-- A point of the grid as a block number. -/
abbrev pt (t : Fin cfg0.N) : Fin 25 := ⟨t.val, Nat.lt_of_lt_of_eq t.isLt N_0⟩

variable (V : (c : Dev nD) → (b : Ref sig .tc) → Buf (Elt Ideal) ((c : Thread nD τ).loc b)) (c : Dev nD)

theorem blk_0 (t : Fin cfg0.N) (n : Fin 2000) (k : Fin 256) :
    (iblk0 V c 0 t : Vec Ideal S2000x256 .f32) (ix2 n k) = (V c main_arg0 : Vec Ideal S50000x256 .f32) (ix2 (row (pt t) n) k) := by
  obtain ⟨e0, e1⟩ := index_0 t
  unfold iblk0
  rw [View.read_apply]
  show (V c main_arg0 : Vec Ideal S50000x256 .f32) _ = _
  congr 1
  funext a
  apply Fin.ext
  match a with
  | ⟨0, _⟩ => show win0_0.index t 0 * 2000 + 1 * n.val = 2000 * t.val + n.val; rw [e0]; omega
  | ⟨1, _⟩ => show win0_0.index t 1 * 256 + 1 * k.val = k.val; rw [e1]; omega

theorem blk_1 (t : Fin cfg0.N) (n : Fin 256) (k : Fin 256) :
    (iblk0 V c 1 t : Vec Ideal S256x256 .f32) (ix2 n k) = (V c main_arg2 : Vec Ideal S256x256 .f32) (ix2 n k) := by
  obtain ⟨e0, e1⟩ := index_1 t
  unfold iblk0
  rw [View.read_apply]
  show (V c main_arg2 : Vec Ideal S256x256 .f32) _ = _
  congr 1
  funext a
  apply Fin.ext
  match a with
  | ⟨0, _⟩ => show win0_1.index t 0 * 256 + 1 * n.val = n.val; rw [e0]; omega
  | ⟨1, _⟩ => show win0_1.index t 1 * 256 + 1 * k.val = k.val; rw [e1]; omega

theorem blk_2 (t : Fin cfg0.N) (n : Fin 2000) :
    (iblk0 V c 2 t : Vec Ideal S1x1x2000 .i32) (ix3 0 0 n) = (V c main_v0 : Vec Ideal S25x1x2000 .i32) (ix3 (pt t) 0 n) := by
  obtain ⟨e0, e1, e2⟩ := index_2 t
  unfold iblk0
  rw [View.read_apply]
  show (V c main_v0 : Vec Ideal S25x1x2000 .i32) _ = _
  congr 1
  funext a
  apply Fin.ext
  match a with
  | ⟨0, _⟩ => show win0_2.index t 0 * 1 + 1 * 0 = t.val; rw [e0]; omega
  | ⟨1, _⟩ => show win0_2.index t 1 * 1 + 1 * 0 = 0; rw [e1]
  | ⟨2, _⟩ => show win0_2.index t 2 * 2000 + 1 * n.val = n.val; rw [e2]; omega

/-! ## The arrays as functions of rows, graphs and lanes -/

abbrev node : Fin 50000 → Fin 256 → EReal := mat (V c main_arg0 : FVec Ideal S50000x256 .f32)
abbrev wt2 : Fin 256 → Fin 256 → EReal := mat (V c main_arg2 : FVec Ideal S256x256 .f32)
/-- The batch words by row, from the blocked array. -/
abbrev bat : Fin 50000 → BitVec 32 := unblock (V c main_v0 : IVec S25x1x2000 32)

theorem mat_blk (t : Fin cfg0.N) : mat (iblk0 V c 0 t : FVec Ideal S2000x256 .f32) = fun n => node V c (row (pt t) n) :=
  funext fun n => funext fun k => blk_0 V c t n k

theorem words_blk (t : Fin cfg0.N) : words (iblk0 V c 2 t : IVec S1x1x2000 32) = fun n => bat V c (row (pt t) n) :=
  funext fun n => (blk_2 V c t n).trans (unblock_row _ (pt t) n).symm

/-! ## What the outputs hold -/

theorem out_3 (t : Fin cfg0.N) : (outsAt0 V c t.val t.isLt).1 = k0_pay1 (iblk0 V c 0 t) (iblk0 V c 1 t) := by
  by_cases h : t.val % 25 = 0
  · rw [outsAt0_A V c t h, out_A_3]
  · rw [outsAt0_B V c t h, out_B_3]

theorem out_4 : ∀ (n : ℕ) (h : n < cfg0.N) (g : Fin 512), (outsAt0 V c n h).2.1 (ix2 g 0)
      = ∑ s : Fin (n + 1), cnt (fun r => bat V c (row ⟨s.val, by have : cfg0.N = 25 := N_0; omega⟩ r)) g
  | 0, h, g => by
    rw [outsAt0_A V c ⟨0, h⟩ rfl, out_A_4]
    dsimp only
    rw [pay_count, pay_zero1, zero_add, words_blk]
    simp only [Nat.reduceAdd, Finset.univ_unique, Finset.sum_singleton]
    rfl
  | n + 1, h, g => by
    have hN : cfg0.N = 25 := N_0
    have hB : ¬(⟨n + 1, h⟩ : Fin cfg0.N).val % 25 = 0 := by dsimp only; omega
    rw [outsAt0_B V c ⟨n + 1, h⟩ hB, out_B_4]
    dsimp only
    rw [pay_count, words_blk, Fin.sum_univ_castSucc]
    exact congrArg (· + _) (out_4 n (Nat.lt_of_succ_lt h) g)

theorem out_5 : ∀ (n : ℕ) (h : n < cfg0.N) (g : Fin 512) (k : Fin 256), (outsAt0 V c n h).2.2 (ix2 g k)
      = ∑ s : Fin (n + 1), total (fun r => bat V c (row ⟨s.val, by have : cfg0.N = 25 := N_0; omega⟩ r))
          (fun r => node V c (row ⟨s.val, by have : cfg0.N = 25 := N_0; omega⟩ r)) g k
  | 0, h, g, k => by
    rw [outsAt0_A V c ⟨0, h⟩ rfl, out_A_5]
    dsimp only
    rw [pay_total, pay_zero2, zero_add, words_blk, mat_blk]
    simp only [Nat.reduceAdd, Finset.univ_unique, Finset.sum_singleton]
    rfl
  | n + 1, h, g, k => by
    have hN : cfg0.N = 25 := N_0
    have hB : ¬(⟨n + 1, h⟩ : Fin cfg0.N).val % 25 = 0 := by dsimp only; omega
    rw [outsAt0_B V c ⟨n + 1, h⟩ hB, out_B_5]
    dsimp only
    rw [pay_total, words_blk, mat_blk, Fin.sum_univ_castSucc]
    exact congrArg (· + _) (out_5 n (Nat.lt_of_succ_lt h) g k)

/-! ## The arrays at the end -/

/-- The attended rows. -/
def att : FVec Ideal S50000x256 .f32 := fun i => ∑ j : Fin 256, node V c (i 0) j * wt2 V c (i 1) j
def counts : FVec Ideal S512x1 .f32 := fun i => cnt (bat V c) (i 0)
def sums : FVec Ideal S512x256 .f32 := fun i => total (bat V c) (node V c) (i 0) (i 1)

theorem flushed_3 (t : Fin cfg0.N) (hf : (cfg0.win 3).flush t = true) :
    (dat0 V c).flushed 3 t = ((cfg0.win 3).blk t).view.read (Elt Ideal) (att V c : Buf (Elt Ideal) ((c : Thread nD τ).loc main_v1_0)) := by
  show (cfg0.win 3).cut (grid0.coords t) ((dat0 V c).after 3 t) = _
  rw [after0_3, out_3]
  show k0_pay1 (iblk0 V c 0 t) (iblk0 V c 1 t) = _
  funext j
  obtain ⟨n, k, rfl⟩ : ∃ (n : Fin 2000) (k : Fin 256), j = ix2 n k := ⟨j 0, j 1, eq_ix2 j⟩
  rw [pay_att, View.read_apply]
  obtain ⟨e0, e1⟩ := index_3 t
  have hemb : ((cfg0.win 3).blk t).view.emb (ix2 n k) = (ix2 (row (pt t) n) k : S50000x256.Idx) := by
    funext a
    apply Fin.ext
    match a with
    | ⟨0, _⟩ => show win0_3.index t 0 * 2000 + 1 * n.val = 2000 * t.val + n.val; rw [e0]; omega
    | ⟨1, _⟩ => show win0_3.index t 1 * 256 + 1 * k.val = k.val; rw [e1]; omega
  rw [hemb]
  show _ = ∑ j : Fin 256, node V c (row (pt t) n) j * wt2 V c k j
  exact Finset.sum_congr rfl fun j _ => congrArg₂ (· * ·) (blk_0 V c t n j) (blk_1 V c t k j)

theorem final_3 : (dat0 V c).arrAt 3 cfg0.N = (att V c : Buf (Elt Ideal) ((c : Thread nD τ).loc main_v1_0)) :=
  (dat0 V c).arrAt_eq_of_cover 3 (att V c) (flushed_3 V c) fun i => by
    have hi0 : (i 0 : Nat) < 50000 := (i 0).isLt
    have hi1 : (i 1 : Nat) < 256 := (i 1).isLt
    let t : Fin cfg0.N := ⟨(i 0 : Nat) / 2000, by rw [show cfg0.N = 25 from N_0]; omega⟩
    refine ⟨t, flush0_3 t, ?_⟩
    show i ∈ ((View.whole main_v1_0).slice (win0_3.rect t)).set
    obtain ⟨e0, e1⟩ := index_3 t
    rw [View.set_slice_whole, Rect.mem_set_unit]
    intro a
    match a with
    | ⟨0, _⟩ => show win0_3.index t 0 * 2000 ≤ (i 0 : Nat) ∧ (i 0 : Nat) < win0_3.index t 0 * 2000 + 2000
                rw [e0]; show (i 0 : Nat) / 2000 * 2000 ≤ (i 0 : Nat) ∧ (i 0 : Nat) < (i 0 : Nat) / 2000 * 2000 + 2000; omega
    | ⟨1, _⟩ => show win0_3.index t 1 * 256 ≤ (i 1 : Nat) ∧ (i 1 : Nat) < win0_3.index t 1 * 256 + 256
                rw [e1]; omega

/-- The last point. -/
abbrev tl : Fin cfg0.N := ⟨24, by rw [show cfg0.N = 25 from N_0]; decide⟩

theorem eq_tl (t : Fin cfg0.N) (h : t.val % 25 = 24) : t = tl := by
  have hN : cfg0.N = 25 := N_0
  have := t.isLt
  exact Fin.ext (by show t.val = 24; omega)

theorem flushed_4 (t : Fin cfg0.N) (hf : (cfg0.win 4).flush t = true) :
    (dat0 V c).flushed 4 t = ((cfg0.win 4).blk t).view.read (Elt Ideal) (counts V c : Buf (Elt Ideal) ((c : Thread nD τ).loc main_v1_1)) := by
  obtain rfl : t = tl := eq_tl t ((flush0_4 t).mp hf)
  show (cfg0.win 4).cut (grid0.coords tl) ((dat0 V c).after 4 tl) = _
  rw [after0_4]
  show (outsAt0 V c 24 _).2.1 = _
  funext j
  obtain ⟨g, z, rfl⟩ : ∃ (g : Fin 512) (z : Fin 1), j = ix2 g z := ⟨j 0, j 1, eq_ix2 j⟩
  obtain rfl : z = 0 := Subsingleton.elim _ _
  rw [out_4 V c 24 _ g, View.read_apply]
  obtain ⟨e0, e1⟩ := index_4 tl
  have hemb : ((cfg0.win 4).blk tl).view.emb (ix2 g 0) = (ix2 g 0 : S512x1.Idx) := by
    funext a
    apply Fin.ext
    match a with
    | ⟨0, _⟩ => show win0_4.index tl 0 * 512 + 1 * g.val = g.val; rw [e0]; omega
    | ⟨1, _⟩ => show win0_4.index tl 1 * 1 + 1 * 0 = 0; rw [e1]
  rw [hemb, cnt_rows (bat V c) g]
  refine Eq.trans ?_ (cast_eq rfl _).symm
  show cnt (bat V c) g = cnt (bat V c) ((ix2 g 0 : S512x1.Idx) 0)
  rfl

theorem final_4 : (dat0 V c).arrAt 4 cfg0.N = (counts V c : Buf (Elt Ideal) ((c : Thread nD τ).loc main_v1_1)) :=
  (dat0 V c).arrAt_eq_of_cover 4 (counts V c) (flushed_4 V c) fun i => by
    have hi0 : (i 0 : Nat) < 512 := (i 0).isLt
    have hi1 : (i 1 : Nat) < 1 := (i 1).isLt
    refine ⟨tl, (flush0_4 tl).mpr rfl, ?_⟩
    show i ∈ ((View.whole main_v1_1).slice (win0_4.rect tl)).set
    obtain ⟨e0, e1⟩ := index_4 tl
    rw [View.set_slice_whole, Rect.mem_set_unit]
    intro a
    match a with
    | ⟨0, _⟩ => show win0_4.index tl 0 * 512 ≤ (i 0 : Nat) ∧ (i 0 : Nat) < win0_4.index tl 0 * 512 + 512
                rw [e0]; omega
    | ⟨1, _⟩ => show win0_4.index tl 1 * 1 ≤ (i 1 : Nat) ∧ (i 1 : Nat) < win0_4.index tl 1 * 1 + 1
                rw [e1]; omega

theorem flushed_5 (t : Fin cfg0.N) (hf : (cfg0.win 5).flush t = true) :
    (dat0 V c).flushed 5 t = ((cfg0.win 5).blk t).view.read (Elt Ideal) (sums V c : Buf (Elt Ideal) ((c : Thread nD τ).loc main_v1_2)) := by
  obtain rfl : t = tl := eq_tl t ((flush0_5 t).mp hf)
  show (cfg0.win 5).cut (grid0.coords tl) ((dat0 V c).after 5 tl) = _
  rw [after0_5]
  show (outsAt0 V c 24 _).2.2 = _
  funext j
  obtain ⟨g, k, rfl⟩ : ∃ (g : Fin 512) (k : Fin 256), j = ix2 g k := ⟨j 0, j 1, eq_ix2 j⟩
  rw [out_5 V c 24 _ g k, View.read_apply]
  obtain ⟨e0, e1⟩ := index_5 tl
  have hemb : ((cfg0.win 5).blk tl).view.emb (ix2 g k) = (ix2 g k : S512x256.Idx) := by
    funext a
    apply Fin.ext
    match a with
    | ⟨0, _⟩ => show win0_5.index tl 0 * 512 + 1 * g.val = g.val; rw [e0]; omega
    | ⟨1, _⟩ => show win0_5.index tl 1 * 256 + 1 * k.val = k.val; rw [e1]; omega
  rw [hemb, total_rows (bat V c) (node V c) g k]
  refine Eq.trans ?_ (cast_eq rfl _).symm
  show total (bat V c) (node V c) g k = total (bat V c) (node V c) ((ix2 g k : S512x256.Idx) 0) ((ix2 g k : S512x256.Idx) 1)
  rfl

theorem final_5 : (dat0 V c).arrAt 5 cfg0.N = (sums V c : Buf (Elt Ideal) ((c : Thread nD τ).loc main_v1_2)) :=
  (dat0 V c).arrAt_eq_of_cover 5 (sums V c) (flushed_5 V c) fun i => by
    have hi0 : (i 0 : Nat) < 512 := (i 0).isLt
    have hi1 : (i 1 : Nat) < 256 := (i 1).isLt
    refine ⟨tl, (flush0_5 tl).mpr rfl, ?_⟩
    show i ∈ ((View.whole main_v1_2).slice (win0_5.rect tl)).set
    obtain ⟨e0, e1⟩ := index_5 tl
    rw [View.set_slice_whole, Rect.mem_set_unit]
    intro a
    match a with
    | ⟨0, _⟩ => show win0_5.index tl 0 * 512 ≤ (i 0 : Nat) ∧ (i 0 : Nat) < win0_5.index tl 0 * 512 + 512
                rw [e0]; omega
    | ⟨1, _⟩ => show win0_5.index tl 1 * 256 ≤ (i 1 : Nat) ∧ (i 1 : Nat) < win0_5.index tl 1 * 256 + 256
                rw [e1]; omega

end Cert.KernelIdeal.Reg0
end
-- ==== Proof.Reg1.lean ====
/- The mean row of each graph. -/
module

public import proofs.«01_k».proof.Proof.Blocks
public import proofs.«01_k».proof.Proof.Gen.KernelIdeal.Frame.Region1
public import Idealize.ShloMosaic.Lib.Pipeline.Value
public import Idealize.ShloMosaic.Lib.Tactic

@[expose] public section

set_option maxRecDepth 16384

noncomputable section

namespace Cert.KernelIdeal.Reg1

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

variable (V : (c : Dev nD) → (b : Ref sig .tc) → Buf (Elt Ideal) ((c : Thread nD τ).loc b)) (c : Dev nD)

theorem blk_0 (t : Fin cfg1.N) : (iblk1 V c 0 t : Vec Ideal S512x256 .f32) = (V c main_v1_2 : Vec Ideal S512x256 .f32) := by
  funext j
  unfold iblk1
  rw [View.read_apply]
  show (V c main_v1_2 : Vec Ideal S512x256 .f32) _ = _
  congr 1
  funext a
  apply Fin.ext
  match a with
  | ⟨0, _⟩ => show 0 * 512 + 1 * (j 0).val = (j 0).val; omega
  | ⟨1, _⟩ => show 0 * 256 + 1 * (j 1).val = (j 1).val; omega

theorem blk_1 (t : Fin cfg1.N) : (iblk1 V c 1 t : Vec Ideal S512x1 .f32) = (V c main_v1_1 : Vec Ideal S512x1 .f32) := by
  funext j
  unfold iblk1
  rw [View.read_apply]
  show (V c main_v1_1 : Vec Ideal S512x1 .f32) _ = _
  congr 1
  funext a
  apply Fin.ext
  match a with
  | ⟨0, _⟩ => show 0 * 512 + 1 * (j 0).val = (j 0).val; omega
  | ⟨1, _⟩ => show 0 * 1 + 1 * (j 1).val = (j 1).val; omega

theorem out_eq (x0 : Vec Ideal S512x256 .f32) (x1 : Vec Ideal S512x1 .f32) : out1_2 x0 x1 = k1_pay1 x0 x1 := by
  unfold out1_2
  rw [View.canon_unit_zero hz2]
  simp only [View.ld_unit_zero (S := S512x1) hz2, View.ld_unit_zero (S := S512x256) hz2]
  all_goals rfl

def res : FVec Ideal S512x256 .f32 := fun i =>
  Ideal.div (mat (V c main_v1_2 : FVec Ideal S512x256 .f32) (i 0) (i 1)) (max (col (V c main_v1_1 : FVec Ideal S512x1 .f32) (i 0)) 1)

theorem flushed_2 (t : Fin cfg1.N) (hf : (cfg1.win 2).flush t = true) :
    (dat1 V c).flushed 2 t = ((cfg1.win 2).blk t).view.read (Elt Ideal) (res V c : Buf (Elt Ideal) ((c : Thread nD τ).loc main_v2)) := by
  show (cfg1.win 2).cut (grid1.coords t) ((dat1 V c).after 2 t) = _
  rw [after1_2, out_eq, blk_0, blk_1]
  funext j
  obtain ⟨g, k, rfl⟩ : ∃ (g : Fin 512) (k : Fin 256), j = ix2 g k := ⟨j 0, j 1, eq_ix2 j⟩
  rw [View.read_apply]
  have hemb : ((cfg1.win 2).blk t).view.emb (ix2 g k) = (ix2 g k : S512x256.Idx) := by
    funext a
    apply Fin.ext
    match a with
    | ⟨0, _⟩ => show 0 * 512 + 1 * g.val = g.val; omega
    | ⟨1, _⟩ => show 0 * 256 + 1 * k.val = k.val; omega
  rw [hemb]
  refine Eq.trans ?_ (cast_eq rfl _).symm
  show k1_pay1 (V c main_v1_2 : Vec Ideal S512x256 .f32) (V c main_v1_1 : Vec Ideal S512x1 .f32) (ix2 g k) = _
  rw [pay_gf]
  rfl

theorem final_2 : (dat1 V c).arrAt 2 cfg1.N = (res V c : Buf (Elt Ideal) ((c : Thread nD τ).loc main_v2)) :=
  (dat1 V c).arrAt_eq_of_cover 2 (res V c) (flushed_2 V c) fun i => by
    have hi0 : (i 0 : Nat) < 512 := (i 0).isLt
    have hi1 : (i 1 : Nat) < 256 := (i 1).isLt
    let t : Fin cfg1.N := ⟨0, by rw [show cfg1.N = 1 from N_1]; omega⟩
    refine ⟨t, flush1_2 t, ?_⟩
    show i ∈ ((View.whole main_v2).slice (win1_2.rect t)).set
    rw [View.set_slice_whole, Rect.mem_set_unit]
    intro a
    match a with
    | ⟨0, _⟩ => show 0 * 512 ≤ (i 0 : Nat) ∧ (i 0 : Nat) < 0 * 512 + 512; omega
    | ⟨1, _⟩ => show 0 * 256 ≤ (i 1 : Nat) ∧ (i 1 : Nat) < 0 * 256 + 256; omega

end Cert.KernelIdeal.Reg1
end
-- ==== Proof.Reg2.lean ====
/- The scores of the rows and the largest score of each graph. -/
module

public import proofs.«01_k».proof.Proof.Blocks
public import proofs.«01_k».proof.Proof.Gen.KernelIdeal.Frame.Region2
public import Idealize.ShloMosaic.Lib.Pipeline.Value
public import Idealize.ShloMosaic.Lib.Tactic

@[expose] public section

set_option maxRecDepth 16384

noncomputable section

namespace Cert.KernelIdeal.Reg2

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

section Out
variable {F : FTy → Type} [FloatOps F]
variable (c : Dev nD) (i : grid2.Coords)
  (a1 : Memref sig .tc .vmem S2000x256 .f32) (h1 : a1.IsWhole)
  (a2 : Memref sig .tc .vmem S512x256 .f32) (h2 : a2.IsWhole)
  (a3 : Memref sig .tc .vmem S1x1x2000 .i32) (h3 : a3.IsWhole)
  (a4 : Memref sig .tc .vmem S1x1x2000 .f32) (h4 : a4.IsWhole)
  (a5 : Memref sig .tc .vmem S512x1 .f32) (h5 : a5.IsWhole)
  (x0 : Vec F S2000x256 .f32)
  (x1 : Vec F S512x256 .f32)
  (x2 : Vec F S1x1x2000 .i32)
  (xo4 : Vec F S512x1 .f32)

theorem out_A_3 (hc : cond2_0 i) : out2_A_3 c i a1 h1 a2 h2 a3 h3 a4 h4 a5 h5 hc x0 x1 x2 = k2_pay3 x1 x0 x2 := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_unit_zero hz3]
  simp only [View.readAt_eq_ld, h1.read_unread, h2.read_unread, h3.read_unread, View.ld_unit_zero (S := S1x1x2000) hz3, View.ld_unit_zero (S := S2000x256) hz2, View.ld_unit_zero (S := S512x1) hz2, View.ld_unit_zero (S := S512x256) hz2]
  all_goals rfl

theorem out_B_3 (hc : ¬cond2_0 i) : out2_B_3 c i a1 h1 a2 h2 a3 h3 a4 h4 a5 h5 hc x0 x1 x2 xo4 = k2_pay3 x1 x0 x2 := by
  unfold out2_B_3
  rw [View.read_writes_eq_canon _ _ _ (cover2_B_3 c i a1 h1 a2 h2 a3 h3 a4 h4 a5 h5 hc x0 x1 x2 xo4)]
  unfold kernelRun2_B
  dsimp only
  sl_unfold_words
  rw [View.canon_unit_zero hz3]
  simp only [View.readAt_eq_ld, h1.read_unread, h2.read_unread, h3.read_unread, h5.read_unread, View.ld_unit_zero (S := S1x1x2000) hz3, View.ld_unit_zero (S := S2000x256) hz2, View.ld_unit_zero (S := S512x1) hz2, View.ld_unit_zero (S := S512x256) hz2]
  all_goals rfl

theorem out_A_4 (hc : cond2_0 i) : out2_A_4 c i a1 h1 a2 h2 a3 h3 a4 h4 a5 h5 hc x0 x1 x2 = k2_pay5 x1 x0 x2 k2_pay4 := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S512x1) hz2, View.readCov_unit_zero (S := S512x1) _ hz2]
  simp only [View.readAt_eq_ld, h1.read_unread, h2.read_unread, h3.read_unread, View.ld_unit_zero (S := S1x1x2000) hz3, View.ld_unit_zero (S := S2000x256) hz2, View.ld_unit_zero (S := S512x1) hz2, View.ld_unit_zero (S := S512x256) hz2]
  all_goals rfl

theorem out_B_4 (hc : ¬cond2_0 i) : out2_B_4 c i a1 h1 a2 h2 a3 h3 a4 h4 a5 h5 hc x0 x1 x2 xo4 = k2_pay5 x1 x0 x2 xo4 := by
  unfold out2_B_4
  rw [View.read_writes_eq_canon _ _ _ (cover2_B_4 c i a1 h1 a2 h2 a3 h3 a4 h4 a5 h5 hc x0 x1 x2 xo4)]
  unfold kernelRun2_B
  dsimp only
  sl_unfold_words
  rw [View.canon_unit_zero hz2]
  simp only [View.readAt_eq_ld, h1.read_unread, h2.read_unread, h3.read_unread, h5.read_unread, View.ld_unit_zero (S := S1x1x2000) hz3, View.ld_unit_zero (S := S2000x256) hz2, View.ld_unit_zero (S := S512x1) hz2, View.ld_unit_zero (S := S512x256) hz2]
  all_goals rfl

end Out

/-! ## The blocks read off the arrays -/

theorem index_0 : ∀ t : Fin cfg2.N, win2_0.index t 0 = t.val ∧ win2_0.index t 1 = 0 := by decide +kernel
theorem index_1 : ∀ t : Fin cfg2.N, win2_1.index t 0 = 0 ∧ win2_1.index t 1 = 0 := by decide +kernel
theorem index_2 : ∀ t : Fin cfg2.N, win2_2.index t 0 = t.val ∧ win2_2.index t 1 = 0 ∧ win2_2.index t 2 = 0 := by decide +kernel
theorem index_3 : ∀ t : Fin cfg2.N, win2_3.index t 0 = t.val ∧ win2_3.index t 1 = 0 ∧ win2_3.index t 2 = 0 := by decide +kernel
theorem index_4 : ∀ t : Fin cfg2.N, win2_4.index t 0 = 0 ∧ win2_4.index t 1 = 0 := by decide +kernel

/-- A point of the grid as a block number. -/
abbrev pt (t : Fin cfg2.N) : Fin 25 := ⟨t.val, Nat.lt_of_lt_of_eq t.isLt N_2⟩

variable (V : (c : Dev nD) → (b : Ref sig .tc) → Buf (Elt Ideal) ((c : Thread nD τ).loc b)) (c : Dev nD)

theorem blk_0 (t : Fin cfg2.N) (n : Fin 2000) (k : Fin 256) :
    (iblk2 V c 0 t : Vec Ideal S2000x256 .f32) (ix2 n k) = (V c main_v1_0 : Vec Ideal S50000x256 .f32) (ix2 (row (pt t) n) k) := by
  obtain ⟨e0, e1⟩ := index_0 t
  unfold iblk2
  rw [View.read_apply]
  show (V c main_v1_0 : Vec Ideal S50000x256 .f32) _ = _
  congr 1
  funext a
  apply Fin.ext
  match a with
  | ⟨0, _⟩ => show win2_0.index t 0 * 2000 + 1 * n.val = 2000 * t.val + n.val; rw [e0]; omega
  | ⟨1, _⟩ => show win2_0.index t 1 * 256 + 1 * k.val = k.val; rw [e1]; omega

theorem blk_1 (t : Fin cfg2.N) (g : Fin 512) (k : Fin 256) :
    (iblk2 V c 1 t : Vec Ideal S512x256 .f32) (ix2 g k) = (V c main_v2 : Vec Ideal S512x256 .f32) (ix2 g k) := by
  obtain ⟨e0, e1⟩ := index_1 t
  unfold iblk2
  rw [View.read_apply]
  show (V c main_v2 : Vec Ideal S512x256 .f32) _ = _
  congr 1
  funext a
  apply Fin.ext
  match a with
  | ⟨0, _⟩ => show win2_1.index t 0 * 512 + 1 * g.val = g.val; rw [e0]; omega
  | ⟨1, _⟩ => show win2_1.index t 1 * 256 + 1 * k.val = k.val; rw [e1]; omega

theorem blk_2 (t : Fin cfg2.N) (n : Fin 2000) :
    (iblk2 V c 2 t : Vec Ideal S1x1x2000 .i32) (ix3 0 0 n) = (V c main_v0 : Vec Ideal S25x1x2000 .i32) (ix3 (pt t) 0 n) := by
  obtain ⟨e0, e1, e2⟩ := index_2 t
  unfold iblk2
  rw [View.read_apply]
  show (V c main_v0 : Vec Ideal S25x1x2000 .i32) _ = _
  congr 1
  funext a
  apply Fin.ext
  match a with
  | ⟨0, _⟩ => show win2_2.index t 0 * 1 + 1 * 0 = t.val; rw [e0]; omega
  | ⟨1, _⟩ => show win2_2.index t 1 * 1 + 1 * 0 = 0; rw [e1]
  | ⟨2, _⟩ => show win2_2.index t 2 * 2000 + 1 * n.val = n.val; rw [e2]; omega

abbrev att : Fin 50000 → Fin 256 → EReal := mat (V c main_v1_0 : FVec Ideal S50000x256 .f32)
abbrev gf : Fin 512 → Fin 256 → EReal := mat (V c main_v2 : FVec Ideal S512x256 .f32)
abbrev bat : Fin 50000 → BitVec 32 := unblock (V c main_v0 : IVec S25x1x2000 32)

theorem mat_blk (t : Fin cfg2.N) : mat (iblk2 V c 0 t : FVec Ideal S2000x256 .f32) = fun n => att V c (row (pt t) n) :=
  funext fun n => funext fun k => blk_0 V c t n k

theorem gf_blk (t : Fin cfg2.N) : mat (iblk2 V c 1 t : FVec Ideal S512x256 .f32) = gf V c :=
  funext fun g => funext fun k => blk_1 V c t g k

theorem words_blk (t : Fin cfg2.N) : words (iblk2 V c 2 t : IVec S1x1x2000 32) = fun n => bat V c (row (pt t) n) :=
  funext fun n => (blk_2 V c t n).trans (unblock_row _ (pt t) n).symm

/-! ## What the outputs hold -/

theorem out_3 (t : Fin cfg2.N) : (outsAt2 V c t.val t.isLt).1 = k2_pay3 (iblk2 V c 1 t) (iblk2 V c 0 t) (iblk2 V c 2 t) := by
  by_cases h : t.val % 25 = 0
  · rw [outsAt2_A V c t h, out_A_3]
  · rw [outsAt2_B V c t h, out_B_3]

theorem out_4 : ∀ (n : ℕ) (h : n < cfg2.N) (g : Fin 512), (outsAt2 V c n h).2 (ix2 g 0)
      = Finset.univ.fold max ⊥ fun s : Fin (n + 1) => top (fun r => bat V c (row ⟨s.val, by have : cfg2.N = 25 := N_2; omega⟩ r)) (gf V c)
          (fun r => att V c (row ⟨s.val, by have : cfg2.N = 25 := N_2; omega⟩ r)) g
  | 0, h, g => by
    rw [outsAt2_A V c ⟨0, h⟩ rfl, out_A_4]
    dsimp only
    rw [pay_max, pay_bot, words_blk, mat_blk, gf_blk, max_succ]
    rfl
  | n + 1, h, g => by
    have hN : cfg2.N = 25 := N_2
    have hB : ¬(⟨n + 1, h⟩ : Fin cfg2.N).val % 25 = 0 := by dsimp only; omega
    rw [outsAt2_B V c ⟨n + 1, h⟩ hB, out_B_4]
    dsimp only
    rw [pay_max, words_blk, mat_blk, gf_blk, max_succ]
    exact congrArg (max · _) (out_4 n (Nat.lt_of_succ_lt h) g)

/-! ## The arrays at the end -/

def scores : FVec Ideal S25x1x2000 .f32 := block (score (bat V c) (gf V c) (att V c))
def tops : FVec Ideal S512x1 .f32 := fun i => top (bat V c) (gf V c) (att V c) (i 0)

theorem flushed_3 (t : Fin cfg2.N) (hf : (cfg2.win 3).flush t = true) :
    (dat2 V c).flushed 3 t = ((cfg2.win 3).blk t).view.read (Elt Ideal) (scores V c : Buf (Elt Ideal) ((c : Thread nD τ).loc main_v3_0)) := by
  show (cfg2.win 3).cut (grid2.coords t) ((dat2 V c).after 3 t) = _
  rw [after2_3, out_3]
  show k2_pay3 (iblk2 V c 1 t) (iblk2 V c 0 t) (iblk2 V c 2 t) = _
  funext j
  obtain ⟨a, b, n, rfl⟩ : ∃ (a : Fin 1) (b : Fin 1) (n : Fin 2000), j = ix3 a b n := ⟨j 0, j 1, j 2, eq_ix3 j⟩
  obtain rfl : a = 0 := Subsingleton.elim _ _
  obtain rfl : b = 0 := Subsingleton.elim _ _
  rw [pay_score, View.read_apply, words_blk, mat_blk, gf_blk]
  obtain ⟨e0, e1, e2⟩ := index_3 t
  have hemb : ((cfg2.win 3).blk t).view.emb (ix3 0 0 n) = (ix3 (pt t) 0 n : S25x1x2000.Idx) := by
    funext a
    apply Fin.ext
    match a with
    | ⟨0, _⟩ => show win2_3.index t 0 * 1 + 1 * 0 = t.val; rw [e0]; omega
    | ⟨1, _⟩ => show win2_3.index t 1 * 1 + 1 * 0 = 0; rw [e1]
    | ⟨2, _⟩ => show win2_3.index t 2 * 2000 + 1 * n.val = n.val; rw [e2]; omega
  rw [hemb]
  refine Eq.trans ?_ (cast_eq rfl _).symm
  show _ = score (bat V c) (gf V c) (att V c) (row (pt t) n)
  rfl

theorem final_3 : (dat2 V c).arrAt 3 cfg2.N = (scores V c : Buf (Elt Ideal) ((c : Thread nD τ).loc main_v3_0)) :=
  (dat2 V c).arrAt_eq_of_cover 3 (scores V c) (flushed_3 V c) fun i => by
    have hi0 : (i 0 : Nat) < 25 := (i 0).isLt
    have hi1 : (i 1 : Nat) < 1 := (i 1).isLt
    have hi2 : (i 2 : Nat) < 2000 := (i 2).isLt
    let t : Fin cfg2.N := ⟨(i 0 : Nat), by rw [show cfg2.N = 25 from N_2]; omega⟩
    refine ⟨t, flush2_3 t, ?_⟩
    show i ∈ ((View.whole main_v3_0).slice (win2_3.rect t)).set
    obtain ⟨e0, e1, e2⟩ := index_3 t
    rw [View.set_slice_whole, Rect.mem_set_unit]
    intro a
    match a with
    | ⟨0, _⟩ => show win2_3.index t 0 * 1 ≤ (i 0 : Nat) ∧ (i 0 : Nat) < win2_3.index t 0 * 1 + 1
                rw [e0]; show (i 0 : Nat) * 1 ≤ (i 0 : Nat) ∧ (i 0 : Nat) < (i 0 : Nat) * 1 + 1; omega
    | ⟨1, _⟩ => show win2_3.index t 1 * 1 ≤ (i 1 : Nat) ∧ (i 1 : Nat) < win2_3.index t 1 * 1 + 1
                rw [e1]; omega
    | ⟨2, _⟩ => show win2_3.index t 2 * 2000 ≤ (i 2 : Nat) ∧ (i 2 : Nat) < win2_3.index t 2 * 2000 + 2000
                rw [e2]; omega

/-- The last point. -/
abbrev tl : Fin cfg2.N := ⟨24, by rw [show cfg2.N = 25 from N_2]; decide⟩

theorem eq_tl (t : Fin cfg2.N) (h : t.val % 25 = 24) : t = tl := by
  have hN : cfg2.N = 25 := N_2
  have := t.isLt
  exact Fin.ext (by show t.val = 24; omega)

theorem flushed_4 (t : Fin cfg2.N) (hf : (cfg2.win 4).flush t = true) :
    (dat2 V c).flushed 4 t = ((cfg2.win 4).blk t).view.read (Elt Ideal) (tops V c : Buf (Elt Ideal) ((c : Thread nD τ).loc main_v3_1)) := by
  obtain rfl : t = tl := eq_tl t ((flush2_4 t).mp hf)
  show (cfg2.win 4).cut (grid2.coords tl) ((dat2 V c).after 4 tl) = _
  rw [after2_4]
  show (outsAt2 V c 24 _).2 = _
  funext j
  obtain ⟨g, z, rfl⟩ : ∃ (g : Fin 512) (z : Fin 1), j = ix2 g z := ⟨j 0, j 1, eq_ix2 j⟩
  obtain rfl : z = 0 := Subsingleton.elim _ _
  rw [out_4 V c 24 _ g, View.read_apply]
  obtain ⟨e0, e1⟩ := index_4 tl
  have hemb : ((cfg2.win 4).blk tl).view.emb (ix2 g 0) = (ix2 g 0 : S512x1.Idx) := by
    funext a
    apply Fin.ext
    match a with
    | ⟨0, _⟩ => show win2_4.index tl 0 * 512 + 1 * g.val = g.val; rw [e0]; omega
    | ⟨1, _⟩ => show win2_4.index tl 1 * 1 + 1 * 0 = 0; rw [e1]
  rw [hemb, top_rows (B := bat V c) (G := gf V c) (X := att V c) g]
  refine Eq.trans ?_ (cast_eq rfl _).symm
  show top (bat V c) (gf V c) (att V c) g = top (bat V c) (gf V c) (att V c) ((ix2 g 0 : S512x1.Idx) 0)
  rfl

theorem final_4 : (dat2 V c).arrAt 4 cfg2.N = (tops V c : Buf (Elt Ideal) ((c : Thread nD τ).loc main_v3_1)) :=
  (dat2 V c).arrAt_eq_of_cover 4 (tops V c) (flushed_4 V c) fun i => by
    have hi0 : (i 0 : Nat) < 512 := (i 0).isLt
    have hi1 : (i 1 : Nat) < 1 := (i 1).isLt
    refine ⟨tl, (flush2_4 tl).mpr rfl, ?_⟩
    show i ∈ ((View.whole main_v3_1).slice (win2_4.rect tl)).set
    obtain ⟨e0, e1⟩ := index_4 tl
    rw [View.set_slice_whole, Rect.mem_set_unit]
    intro a
    match a with
    | ⟨0, _⟩ => show win2_4.index tl 0 * 512 ≤ (i 0 : Nat) ∧ (i 0 : Nat) < win2_4.index tl 0 * 512 + 512
                rw [e0]; omega
    | ⟨1, _⟩ => show win2_4.index tl 1 * 1 ≤ (i 1 : Nat) ∧ (i 1 : Nat) < win2_4.index tl 1 * 1 + 1
                rw [e1]; omega

end Cert.KernelIdeal.Reg2
end
-- ==== Proof.Reg3.lean ====
/- The weights of each graph summed, and the rows summed by their weights. -/
module

public import proofs.«01_k».proof.Proof.Blocks
public import proofs.«01_k».proof.Proof.Gen.KernelIdeal.Frame.Region3
public import Idealize.ShloMosaic.Lib.Pipeline.Value
public import Idealize.ShloMosaic.Lib.Tactic

@[expose] public section

set_option maxRecDepth 16384

noncomputable section

namespace Cert.KernelIdeal.Reg3

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

section Out
variable {F : FTy → Type} [FloatOps F]
variable (c : Dev nD) (i : grid3.Coords)
  (a1 : Memref sig .tc .vmem S2000x256 .f32) (h1 : a1.IsWhole)
  (a2 : Memref sig .tc .vmem S1x1x2000 .i32) (h2 : a2.IsWhole)
  (a3 : Memref sig .tc .vmem S1x1x2000 .f32) (h3 : a3.IsWhole)
  (a4 : Memref sig .tc .vmem S512x1 .f32) (h4 : a4.IsWhole)
  (a5 : Memref sig .tc .vmem S512x1 .f32) (h5 : a5.IsWhole)
  (a6 : Memref sig .tc .vmem S512x256 .f32) (h6 : a6.IsWhole)
  (x0 : Vec F S2000x256 .f32)
  (x1 : Vec F S1x1x2000 .i32)
  (x2 : Vec F S1x1x2000 .f32)
  (x3 : Vec F S512x1 .f32)
  (xo4 : Vec F S512x1 .f32)
  (xo5 : Vec F S512x256 .f32)

theorem out_A_4 (hc : cond3_0 i) : out3_A_4 c i a1 h1 a2 h2 a3 h3 a4 h4 a5 h5 a6 h6 hc x0 x1 x2 x3 = k3_pay6 x1 x3 x2 k3_pay4 := by
  unfold out3_A_4
  rw [View.read_writes_eq_canon _ _ _ (cover3_A_4 c i a1 h1 a2 h2 a3 h3 a4 h4 a5 h5 a6 h6 hc x0 x1 x2 x3)]
  unfold kernelRun3_A
  dsimp only
  sl_unfold_words
  rw [View.canon_cons_unit_zero (S := S512x1) hz2, View.readCov_unit_zero (S := S512x1) _ hz2]
  simp only [View.readAt_eq_ld, h1.read_unread, h2.read_unread, h3.read_unread, h4.read_unread, View.ld_unit_zero (S := S1x1x2000) hz3, View.ld_unit_zero (S := S2000x256) hz2, View.ld_unit_zero (S := S512x1) hz2, View.ld_unit_zero (S := S512x256) hz2]
  all_goals rfl

theorem out_B_4 (hc : ¬cond3_0 i) : out3_B_4 c i a1 h1 a2 h2 a3 h3 a4 h4 a5 h5 a6 h6 hc x0 x1 x2 x3 xo4 xo5 = k3_pay6 x1 x3 x2 xo4 := by
  unfold out3_B_4
  rw [View.read_writes_eq_canon _ _ _ (cover3_B_4 c i a1 h1 a2 h2 a3 h3 a4 h4 a5 h5 a6 h6 hc x0 x1 x2 x3 xo4 xo5)]
  unfold kernelRun3_B
  dsimp only
  sl_unfold_words
  rw [View.canon_unit_zero hz2]
  simp only [View.readAt_eq_ld, h1.read_unread, h2.read_unread, h3.read_unread, h4.read_unread, h5.read_unread, h6.read_unread, View.ld_unit_zero (S := S1x1x2000) hz3, View.ld_unit_zero (S := S2000x256) hz2, View.ld_unit_zero (S := S512x1) hz2, View.ld_unit_zero (S := S512x256) hz2]
  all_goals rfl

theorem out_A_5 (hc : cond3_0 i) : out3_A_5 c i a1 h1 a2 h2 a3 h3 a4 h4 a5 h5 a6 h6 hc x0 x1 x2 x3 = k3_pay1 (k3_pay3 x1 x3 x2 x0) k3_pay5 := by
  unfold out3_A_5
  rw [View.read_writes_eq_canon _ _ _ (cover3_A_5 c i a1 h1 a2 h2 a3 h3 a4 h4 a5 h5 a6 h6 hc x0 x1 x2 x3)]
  unfold kernelRun3_A
  dsimp only
  sl_unfold_words
  rw [View.canon_cons_unit_zero (S := S512x256) hz2, View.readCov_unit_zero (S := S512x256) _ hz2]
  simp only [View.readAt_eq_ld, h1.read_unread, h2.read_unread, h3.read_unread, h4.read_unread, View.ld_unit_zero (S := S1x1x2000) hz3, View.ld_unit_zero (S := S2000x256) hz2, View.ld_unit_zero (S := S512x1) hz2, View.ld_unit_zero (S := S512x256) hz2]
  all_goals rfl

theorem out_B_5 (hc : ¬cond3_0 i) : out3_B_5 c i a1 h1 a2 h2 a3 h3 a4 h4 a5 h5 a6 h6 hc x0 x1 x2 x3 xo4 xo5 = k3_pay1 (k3_pay3 x1 x3 x2 x0) xo5 := by
  unfold out3_B_5
  rw [View.read_writes_eq_canon _ _ _ (cover3_B_5 c i a1 h1 a2 h2 a3 h3 a4 h4 a5 h5 a6 h6 hc x0 x1 x2 x3 xo4 xo5)]
  unfold kernelRun3_B
  dsimp only
  sl_unfold_words
  rw [View.canon_unit_zero hz2]
  simp only [View.readAt_eq_ld, h1.read_unread, h2.read_unread, h3.read_unread, h4.read_unread, h5.read_unread, h6.read_unread, View.ld_unit_zero (S := S1x1x2000) hz3, View.ld_unit_zero (S := S2000x256) hz2, View.ld_unit_zero (S := S512x1) hz2, View.ld_unit_zero (S := S512x256) hz2]
  all_goals rfl

end Out

/-! ## The blocks read off the arrays -/

theorem index_0 : ∀ t : Fin cfg3.N, win3_0.index t 0 = t.val ∧ win3_0.index t 1 = 0 := by decide +kernel
theorem index_1 : ∀ t : Fin cfg3.N, win3_1.index t 0 = t.val ∧ win3_1.index t 1 = 0 ∧ win3_1.index t 2 = 0 := by decide +kernel
theorem index_2 : ∀ t : Fin cfg3.N, win3_2.index t 0 = t.val ∧ win3_2.index t 1 = 0 ∧ win3_2.index t 2 = 0 := by decide +kernel
theorem index_3 : ∀ t : Fin cfg3.N, win3_3.index t 0 = 0 ∧ win3_3.index t 1 = 0 := by decide +kernel
theorem index_4 : ∀ t : Fin cfg3.N, win3_4.index t 0 = 0 ∧ win3_4.index t 1 = 0 := by decide +kernel
theorem index_5 : ∀ t : Fin cfg3.N, win3_5.index t 0 = 0 ∧ win3_5.index t 1 = 0 := by decide +kernel

/-- A point of the grid as a block number. -/
abbrev pt (t : Fin cfg3.N) : Fin 25 := ⟨t.val, Nat.lt_of_lt_of_eq t.isLt N_3⟩

variable (V : (c : Dev nD) → (b : Ref sig .tc) → Buf (Elt Ideal) ((c : Thread nD τ).loc b)) (c : Dev nD)

theorem blk_0 (t : Fin cfg3.N) (n : Fin 2000) (k : Fin 256) :
    (iblk3 V c 0 t : Vec Ideal S2000x256 .f32) (ix2 n k) = (V c main_arg0 : Vec Ideal S50000x256 .f32) (ix2 (row (pt t) n) k) := by
  obtain ⟨e0, e1⟩ := index_0 t
  unfold iblk3
  rw [View.read_apply]
  show (V c main_arg0 : Vec Ideal S50000x256 .f32) _ = _
  congr 1
  funext a
  apply Fin.ext
  match a with
  | ⟨0, _⟩ => show win3_0.index t 0 * 2000 + 1 * n.val = 2000 * t.val + n.val; rw [e0]; omega
  | ⟨1, _⟩ => show win3_0.index t 1 * 256 + 1 * k.val = k.val; rw [e1]; omega

theorem blk_1 (t : Fin cfg3.N) (n : Fin 2000) :
    (iblk3 V c 1 t : Vec Ideal S1x1x2000 .i32) (ix3 0 0 n) = (V c main_v0 : Vec Ideal S25x1x2000 .i32) (ix3 (pt t) 0 n) := by
  obtain ⟨e0, e1, e2⟩ := index_1 t
  unfold iblk3
  rw [View.read_apply]
  show (V c main_v0 : Vec Ideal S25x1x2000 .i32) _ = _
  congr 1
  funext a
  apply Fin.ext
  match a with
  | ⟨0, _⟩ => show win3_1.index t 0 * 1 + 1 * 0 = t.val; rw [e0]; omega
  | ⟨1, _⟩ => show win3_1.index t 1 * 1 + 1 * 0 = 0; rw [e1]
  | ⟨2, _⟩ => show win3_1.index t 2 * 2000 + 1 * n.val = n.val; rw [e2]; omega

theorem blk_2 (t : Fin cfg3.N) (n : Fin 2000) :
    (iblk3 V c 2 t : Vec Ideal S1x1x2000 .f32) (ix3 0 0 n) = (V c main_v3_0 : Vec Ideal S25x1x2000 .f32) (ix3 (pt t) 0 n) := by
  obtain ⟨e0, e1, e2⟩ := index_2 t
  unfold iblk3
  rw [View.read_apply]
  show (V c main_v3_0 : Vec Ideal S25x1x2000 .f32) _ = _
  congr 1
  funext a
  apply Fin.ext
  match a with
  | ⟨0, _⟩ => show win3_2.index t 0 * 1 + 1 * 0 = t.val; rw [e0]; omega
  | ⟨1, _⟩ => show win3_2.index t 1 * 1 + 1 * 0 = 0; rw [e1]
  | ⟨2, _⟩ => show win3_2.index t 2 * 2000 + 1 * n.val = n.val; rw [e2]; omega

theorem blk_3 (t : Fin cfg3.N) (g : Fin 512) :
    (iblk3 V c 3 t : Vec Ideal S512x1 .f32) (ix2 g 0) = (V c main_v3_1 : Vec Ideal S512x1 .f32) (ix2 g 0) := by
  obtain ⟨e0, e1⟩ := index_3 t
  unfold iblk3
  rw [View.read_apply]
  show (V c main_v3_1 : Vec Ideal S512x1 .f32) _ = _
  congr 1
  funext a
  apply Fin.ext
  match a with
  | ⟨0, _⟩ => show win3_3.index t 0 * 512 + 1 * g.val = g.val; rw [e0]; omega
  | ⟨1, _⟩ => show win3_3.index t 1 * 1 + 1 * 0 = 0; rw [e1]

abbrev node : Fin 50000 → Fin 256 → EReal := mat (V c main_arg0 : FVec Ideal S50000x256 .f32)
abbrev bat : Fin 50000 → BitVec 32 := unblock (V c main_v0 : IVec S25x1x2000 32)
abbrev sco : Fin 50000 → EReal := unblock (V c main_v3_0 : FVec Ideal S25x1x2000 .f32)
abbrev mx : Fin 512 → EReal := col (V c main_v3_1 : FVec Ideal S512x1 .f32)

theorem mat_blk (t : Fin cfg3.N) : mat (iblk3 V c 0 t : FVec Ideal S2000x256 .f32) = fun n => node V c (row (pt t) n) :=
  funext fun n => funext fun k => blk_0 V c t n k

theorem words_blk (t : Fin cfg3.N) : words (iblk3 V c 1 t : IVec S1x1x2000 32) = fun n => bat V c (row (pt t) n) :=
  funext fun n => (blk_1 V c t n).trans (unblock_row _ (pt t) n).symm

theorem lane_blk (t : Fin cfg3.N) : lane (iblk3 V c 2 t : FVec Ideal S1x1x2000 .f32) = fun n => sco V c (row (pt t) n) :=
  funext fun n => (blk_2 V c t n).trans (unblock_row _ (pt t) n).symm

theorem col_blk (t : Fin cfg3.N) : col (iblk3 V c 3 t : FVec Ideal S512x1 .f32) = mx V c :=
  funext fun g => blk_3 V c t g

/-! ## What the outputs hold -/

theorem out_4 : ∀ (n : ℕ) (h : n < cfg3.N) (g : Fin 512), (outsAt3 V c n h).1 (ix2 g 0) = ∑ s : Fin (n + 1), wsum (fun r => bat V c (row ⟨s.val, by have : cfg3.N = 25 := N_3; omega⟩ r)) (mx V c) (fun r => sco V c (row ⟨s.val, by have : cfg3.N = 25 := N_3; omega⟩ r)) g
  | 0, h, g => by
    rw [outsAt3_A V c ⟨0, h⟩ rfl, out_A_4]
    dsimp only
    rw [pay_wsum, pay_zero3, zero_add, words_blk, lane_blk, col_blk]
    simp only [Nat.reduceAdd, Finset.univ_unique, Finset.sum_singleton]
    rfl
  | n + 1, h, g => by
    have hN : cfg3.N = 25 := N_3
    have hB : ¬(⟨n + 1, h⟩ : Fin cfg3.N).val % 25 = 0 := by dsimp only; omega
    rw [outsAt3_B V c ⟨n + 1, h⟩ hB, out_B_4]
    dsimp only
    rw [pay_wsum, words_blk, lane_blk, col_blk, Fin.sum_univ_castSucc]
    exact congrArg (· + _) (out_4 n (Nat.lt_of_succ_lt h) g)

theorem out_5 : ∀ (n : ℕ) (h : n < cfg3.N) (g : Fin 512) (k : Fin 256), (outsAt3 V c n h).2 (ix2 g k) = ∑ s : Fin (n + 1), wctx (fun r => bat V c (row ⟨s.val, by have : cfg3.N = 25 := N_3; omega⟩ r)) (mx V c) (fun r => sco V c (row ⟨s.val, by have : cfg3.N = 25 := N_3; omega⟩ r)) (fun r => node V c (row ⟨s.val, by have : cfg3.N = 25 := N_3; omega⟩ r)) g k
  | 0, h, g, k => by
    rw [outsAt3_A V c ⟨0, h⟩ rfl, out_A_5]
    dsimp only
    rw [pay_wctx, pay_zero4, zero_add, words_blk, lane_blk, col_blk, mat_blk]
    simp only [Nat.reduceAdd, Finset.univ_unique, Finset.sum_singleton]
    rfl
  | n + 1, h, g, k => by
    have hN : cfg3.N = 25 := N_3
    have hB : ¬(⟨n + 1, h⟩ : Fin cfg3.N).val % 25 = 0 := by dsimp only; omega
    rw [outsAt3_B V c ⟨n + 1, h⟩ hB, out_B_5]
    dsimp only
    rw [pay_wctx, words_blk, lane_blk, col_blk, mat_blk, Fin.sum_univ_castSucc]
    exact congrArg (· + _) (out_5 n (Nat.lt_of_succ_lt h) g k)

/-! ## The arrays at the end -/

def wsums : FVec Ideal S512x1 .f32 := fun i => wsum (bat V c) (mx V c) (sco V c) (i 0)
def wctxs : FVec Ideal S512x256 .f32 := fun i => wctx (bat V c) (mx V c) (sco V c) (node V c) (i 0) (i 1)

/-- The last point. -/
abbrev tl : Fin cfg3.N := ⟨24, by rw [show cfg3.N = 25 from N_3]; decide⟩

theorem eq_tl (t : Fin cfg3.N) (h : t.val % 25 = 24) : t = tl := by
  have hN : cfg3.N = 25 := N_3
  have := t.isLt
  exact Fin.ext (by show t.val = 24; omega)

theorem flushed_4 (t : Fin cfg3.N) (hf : (cfg3.win 4).flush t = true) :
    (dat3 V c).flushed 4 t = ((cfg3.win 4).blk t).view.read (Elt Ideal) (wsums V c : Buf (Elt Ideal) ((c : Thread nD τ).loc main_v4_0)) := by
  obtain rfl : t = tl := eq_tl t ((flush3_4 t).mp hf)
  show (cfg3.win 4).cut (grid3.coords tl) ((dat3 V c).after 4 tl) = _
  rw [after3_4]
  show (outsAt3 V c 24 _).1 = _
  funext j
  obtain ⟨g, z, rfl⟩ : ∃ (g : Fin 512) (z : Fin 1), j = ix2 g z := ⟨j 0, j 1, eq_ix2 j⟩
  obtain rfl : z = 0 := Subsingleton.elim _ _
  rw [out_4 V c 24 _ g, View.read_apply]
  obtain ⟨e0, e1⟩ := index_4 tl
  have hemb : ((cfg3.win 4).blk tl).view.emb (ix2 g 0) = (ix2 g 0 : S512x1.Idx) := by
    funext a
    apply Fin.ext
    match a with
    | ⟨0, _⟩ => show win3_4.index tl 0 * 512 + 1 * g.val = g.val; rw [e0]; omega
    | ⟨1, _⟩ => show win3_4.index tl 1 * 1 + 1 * 0 = 0; rw [e1]
  rw [hemb, wsum_rows (B := bat V c) (M := mx V c) (S := sco V c) g]
  refine Eq.trans ?_ (cast_eq rfl _).symm
  show wsum (bat V c) (mx V c) (sco V c) g = wsum (bat V c) (mx V c) (sco V c) ((ix2 g 0 : S512x1.Idx) 0)
  rfl

theorem final_4 : (dat3 V c).arrAt 4 cfg3.N = (wsums V c : Buf (Elt Ideal) ((c : Thread nD τ).loc main_v4_0)) :=
  (dat3 V c).arrAt_eq_of_cover 4 (wsums V c) (flushed_4 V c) fun i => by
    have hi0 : (i 0 : Nat) < 512 := (i 0).isLt
    have hi1 : (i 1 : Nat) < 1 := (i 1).isLt
    refine ⟨tl, (flush3_4 tl).mpr rfl, ?_⟩
    show i ∈ ((View.whole main_v4_0).slice (win3_4.rect tl)).set
    obtain ⟨e0, e1⟩ := index_4 tl
    rw [View.set_slice_whole, Rect.mem_set_unit]
    intro a
    match a with
    | ⟨0, _⟩ => show win3_4.index tl 0 * 512 ≤ (i 0 : Nat) ∧ (i 0 : Nat) < win3_4.index tl 0 * 512 + 512
                rw [e0]; omega
    | ⟨1, _⟩ => show win3_4.index tl 1 * 1 ≤ (i 1 : Nat) ∧ (i 1 : Nat) < win3_4.index tl 1 * 1 + 1
                rw [e1]; omega

theorem flushed_5 (t : Fin cfg3.N) (hf : (cfg3.win 5).flush t = true) :
    (dat3 V c).flushed 5 t = ((cfg3.win 5).blk t).view.read (Elt Ideal) (wctxs V c : Buf (Elt Ideal) ((c : Thread nD τ).loc main_v4_1)) := by
  obtain rfl : t = tl := eq_tl t ((flush3_5 t).mp hf)
  show (cfg3.win 5).cut (grid3.coords tl) ((dat3 V c).after 5 tl) = _
  rw [after3_5]
  show (outsAt3 V c 24 _).2 = _
  funext j
  obtain ⟨g, k, rfl⟩ : ∃ (g : Fin 512) (k : Fin 256), j = ix2 g k := ⟨j 0, j 1, eq_ix2 j⟩
  rw [out_5 V c 24 _ g k, View.read_apply]
  obtain ⟨e0, e1⟩ := index_5 tl
  have hemb : ((cfg3.win 5).blk tl).view.emb (ix2 g k) = (ix2 g k : S512x256.Idx) := by
    funext a
    apply Fin.ext
    match a with
    | ⟨0, _⟩ => show win3_5.index tl 0 * 512 + 1 * g.val = g.val; rw [e0]; omega
    | ⟨1, _⟩ => show win3_5.index tl 1 * 256 + 1 * k.val = k.val; rw [e1]; omega
  rw [hemb, wctx_rows (B := bat V c) (M := mx V c) (S := sco V c) (X := node V c) g k]
  refine Eq.trans ?_ (cast_eq rfl _).symm
  show wctx (bat V c) (mx V c) (sco V c) (node V c) g k = wctx (bat V c) (mx V c) (sco V c) (node V c) ((ix2 g k : S512x256.Idx) 0) ((ix2 g k : S512x256.Idx) 1)
  rfl

theorem final_5 : (dat3 V c).arrAt 5 cfg3.N = (wctxs V c : Buf (Elt Ideal) ((c : Thread nD τ).loc main_v4_1)) :=
  (dat3 V c).arrAt_eq_of_cover 5 (wctxs V c) (flushed_5 V c) fun i => by
    have hi0 : (i 0 : Nat) < 512 := (i 0).isLt
    have hi1 : (i 1 : Nat) < 256 := (i 1).isLt
    refine ⟨tl, (flush3_5 tl).mpr rfl, ?_⟩
    show i ∈ ((View.whole main_v4_1).slice (win3_5.rect tl)).set
    obtain ⟨e0, e1⟩ := index_5 tl
    rw [View.set_slice_whole, Rect.mem_set_unit]
    intro a
    match a with
    | ⟨0, _⟩ => show win3_5.index tl 0 * 512 ≤ (i 0 : Nat) ∧ (i 0 : Nat) < win3_5.index tl 0 * 512 + 512
                rw [e0]; omega
    | ⟨1, _⟩ => show win3_5.index tl 1 * 256 ≤ (i 1 : Nat) ∧ (i 1 : Nat) < win3_5.index tl 1 * 256 + 256
                rw [e1]; omega

end Cert.KernelIdeal.Reg3
end
-- ==== Proof.Reg4.lean ====
/- The recurrent cell on the weighted means. -/
module

public import proofs.«01_k».proof.Proof.Blocks
public import proofs.«01_k».proof.Proof.Gen.KernelIdeal.Frame.Region4
public import Idealize.ShloMosaic.Lib.Pipeline.Value
public import Idealize.ShloMosaic.Lib.Tactic

@[expose] public section

set_option maxRecDepth 16384

noncomputable section

namespace Cert.KernelIdeal.Reg4

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

variable (V : (c : Dev nD) → (b : Ref sig .tc) → Buf (Elt Ideal) ((c : Thread nD τ).loc b)) (c : Dev nD)

theorem blk_0 (t : Fin cfg4.N) : (iblk4 V c 0 t : Vec Ideal S512x256 .f32) = (V c main_v4_1 : Vec Ideal S512x256 .f32) := by
  funext j
  unfold iblk4
  rw [View.read_apply]
  show (V c main_v4_1 : Vec Ideal S512x256 .f32) _ = _
  congr 1
  funext a
  apply Fin.ext
  match a with
  | ⟨0, _⟩ => show 0 * 512 + 1 * (j 0).val = (j 0).val; omega
  | ⟨1, _⟩ => show 0 * 256 + 1 * (j 1).val = (j 1).val; omega

theorem blk_1 (t : Fin cfg4.N) : (iblk4 V c 1 t : Vec Ideal S512x1 .f32) = (V c main_v4_0 : Vec Ideal S512x1 .f32) := by
  funext j
  unfold iblk4
  rw [View.read_apply]
  show (V c main_v4_0 : Vec Ideal S512x1 .f32) _ = _
  congr 1
  funext a
  apply Fin.ext
  match a with
  | ⟨0, _⟩ => show 0 * 512 + 1 * (j 0).val = (j 0).val; omega
  | ⟨1, _⟩ => show 0 * 1 + 1 * (j 1).val = (j 1).val; omega

theorem blk_2 (t : Fin cfg4.N) : (iblk4 V c 2 t : Vec Ideal S512x256 .f32) = (V c main_v2 : Vec Ideal S512x256 .f32) := by
  funext j
  unfold iblk4
  rw [View.read_apply]
  show (V c main_v2 : Vec Ideal S512x256 .f32) _ = _
  congr 1
  funext a
  apply Fin.ext
  match a with
  | ⟨0, _⟩ => show 0 * 512 + 1 * (j 0).val = (j 0).val; omega
  | ⟨1, _⟩ => show 0 * 256 + 1 * (j 1).val = (j 1).val; omega

theorem blk_3 (t : Fin cfg4.N) : (iblk4 V c 3 t : Vec Ideal S768x256 .f32) = (V c main_arg3 : Vec Ideal S768x256 .f32) := by
  funext j
  unfold iblk4
  rw [View.read_apply]
  show (V c main_arg3 : Vec Ideal S768x256 .f32) _ = _
  congr 1
  funext a
  apply Fin.ext
  match a with
  | ⟨0, _⟩ => show 0 * 768 + 1 * (j 0).val = (j 0).val; omega
  | ⟨1, _⟩ => show 0 * 256 + 1 * (j 1).val = (j 1).val; omega

theorem blk_4 (t : Fin cfg4.N) : (iblk4 V c 4 t : Vec Ideal S768x256 .f32) = (V c main_arg4 : Vec Ideal S768x256 .f32) := by
  funext j
  unfold iblk4
  rw [View.read_apply]
  show (V c main_arg4 : Vec Ideal S768x256 .f32) _ = _
  congr 1
  funext a
  apply Fin.ext
  match a with
  | ⟨0, _⟩ => show 0 * 768 + 1 * (j 0).val = (j 0).val; omega
  | ⟨1, _⟩ => show 0 * 256 + 1 * (j 1).val = (j 1).val; omega

theorem blk_5 (t : Fin cfg4.N) : (iblk4 V c 5 t : Vec Ideal S768 .f32) = (V c main_arg5 : Vec Ideal S768 .f32) := by
  funext j
  unfold iblk4
  rw [View.read_apply]
  show (V c main_arg5 : Vec Ideal S768 .f32) _ = _
  congr 1
  funext a
  apply Fin.ext
  match a with
  | ⟨0, _⟩ => show 0 * 768 + 1 * (j 0).val = (j 0).val; omega

theorem blk_6 (t : Fin cfg4.N) : (iblk4 V c 6 t : Vec Ideal S768 .f32) = (V c main_arg6 : Vec Ideal S768 .f32) := by
  funext j
  unfold iblk4
  rw [View.read_apply]
  show (V c main_arg6 : Vec Ideal S768 .f32) _ = _
  congr 1
  funext a
  apply Fin.ext
  match a with
  | ⟨0, _⟩ => show 0 * 768 + 1 * (j 0).val = (j 0).val; omega

theorem out_eq (x0 : Vec Ideal S512x256 .f32) (x1 : Vec Ideal S512x1 .f32) (x2 : Vec Ideal S512x256 .f32) (x3 : Vec Ideal S768x256 .f32) (x4 : Vec Ideal S768x256 .f32) (x5 : Vec Ideal S768 .f32) (x6 : Vec Ideal S768 .f32) : out4_7 x0 x1 x2 x3 x4 x5 x6 = k4_pay1 x0 x1 x2 x3 x5 x4 x6 := by
  unfold out4_7
  rw [View.canon_unit_zero hz2]
  simp only [View.ld_unit_zero (S := S512x1) hz2, View.ld_unit_zero (S := S512x256) hz2, View.ld_unit_zero (S := S768) hz1, View.ld_unit_zero (S := S768x256) hz2]
  all_goals rfl

def res : FVec Ideal S512x256 .f32 := fun i =>
  cell (fun j => Ideal.div (mat (V c main_v4_1 : FVec Ideal S512x256 .f32) (i 0) j) (col (V c main_v4_0 : FVec Ideal S512x1 .f32) (i 0) + eps))
    (mat (V c main_v2 : FVec Ideal S512x256 .f32) (i 0)) (mat (V c main_arg3 : FVec Ideal S768x256 .f32)) (mat (V c main_arg4 : FVec Ideal S768x256 .f32))
    (vec (V c main_arg5 : FVec Ideal S768 .f32)) (vec (V c main_arg6 : FVec Ideal S768 .f32)) (i 1)

theorem flushed_7 (t : Fin cfg4.N) (hf : (cfg4.win 7).flush t = true) :
    (dat4 V c).flushed 7 t = ((cfg4.win 7).blk t).view.read (Elt Ideal) (res V c : Buf (Elt Ideal) ((c : Thread nD τ).loc main_v5)) := by
  show (cfg4.win 7).cut (grid4.coords t) ((dat4 V c).after 7 t) = _
  rw [after4_7, out_eq, blk_0, blk_1, blk_2, blk_3, blk_4, blk_5, blk_6]
  funext j
  obtain ⟨g, k, rfl⟩ : ∃ (g : Fin 512) (k : Fin 256), j = ix2 g k := ⟨j 0, j 1, eq_ix2 j⟩
  rw [View.read_apply]
  have hemb : ((cfg4.win 7).blk t).view.emb (ix2 g k) = (ix2 g k : S512x256.Idx) := by
    funext a
    apply Fin.ext
    match a with
    | ⟨0, _⟩ => show 0 * 512 + 1 * g.val = g.val; omega
    | ⟨1, _⟩ => show 0 * 256 + 1 * k.val = k.val; omega
  rw [hemb]
  refine Eq.trans ?_ (cast_eq rfl _).symm
  show k4_pay1 (V c main_v4_1 : Vec Ideal S512x256 .f32) (V c main_v4_0 : Vec Ideal S512x1 .f32) (V c main_v2 : Vec Ideal S512x256 .f32) (V c main_arg3 : Vec Ideal S768x256 .f32) (V c main_arg5 : Vec Ideal S768 .f32) (V c main_arg4 : Vec Ideal S768x256 .f32) (V c main_arg6 : Vec Ideal S768 .f32) (ix2 g k) = _
  rw [pay_cell]
  rfl

theorem final_7 : (dat4 V c).arrAt 7 cfg4.N = (res V c : Buf (Elt Ideal) ((c : Thread nD τ).loc main_v5)) :=
  (dat4 V c).arrAt_eq_of_cover 7 (res V c) (flushed_7 V c) fun i => by
    have hi0 : (i 0 : Nat) < 512 := (i 0).isLt
    have hi1 : (i 1 : Nat) < 256 := (i 1).isLt
    let t : Fin cfg4.N := ⟨0, by rw [show cfg4.N = 1 from N_4]; omega⟩
    refine ⟨t, flush4_7 t, ?_⟩
    show i ∈ ((View.whole main_v5).slice (win4_7.rect t)).set
    rw [View.set_slice_whole, Rect.mem_set_unit]
    intro a
    match a with
    | ⟨0, _⟩ => show 0 * 512 ≤ (i 0 : Nat) ∧ (i 0 : Nat) < 0 * 512 + 512; omega
    | ⟨1, _⟩ => show 0 * 256 ≤ (i 1 : Nat) ∧ (i 1 : Nat) < 0 * 256 + 256; omega

end Cert.KernelIdeal.Reg4
end
-- ==== Proof.Reg5.lean ====
/- The scores of the rows and the largest score of each graph. -/
module

public import proofs.«01_k».proof.Proof.Blocks
public import proofs.«01_k».proof.Proof.Gen.KernelIdeal.Frame.Region5
public import Idealize.ShloMosaic.Lib.Pipeline.Value
public import Idealize.ShloMosaic.Lib.Tactic

@[expose] public section

set_option maxRecDepth 16384

noncomputable section

namespace Cert.KernelIdeal.Reg5

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

section Out
variable {F : FTy → Type} [FloatOps F]
variable (c : Dev nD) (i : grid5.Coords)
  (a1 : Memref sig .tc .vmem S2000x256 .f32) (h1 : a1.IsWhole)
  (a2 : Memref sig .tc .vmem S512x256 .f32) (h2 : a2.IsWhole)
  (a3 : Memref sig .tc .vmem S1x1x2000 .i32) (h3 : a3.IsWhole)
  (a4 : Memref sig .tc .vmem S1x1x2000 .f32) (h4 : a4.IsWhole)
  (a5 : Memref sig .tc .vmem S512x1 .f32) (h5 : a5.IsWhole)
  (x0 : Vec F S2000x256 .f32)
  (x1 : Vec F S512x256 .f32)
  (x2 : Vec F S1x1x2000 .i32)
  (xo4 : Vec F S512x1 .f32)

theorem out_A_3 (hc : cond5_0 i) : out5_A_3 c i a1 h1 a2 h2 a3 h3 a4 h4 a5 h5 hc x0 x1 x2 = k2_pay3 x1 x0 x2 := by
  unfold out5_A_3
  rw [View.read_writes_eq_canon _ _ _ (cover5_A_3 c i a1 h1 a2 h2 a3 h3 a4 h4 a5 h5 hc x0 x1 x2)]
  unfold kernelRun5_A
  dsimp only
  sl_unfold_words
  rw [View.canon_unit_zero hz3]
  simp only [View.readAt_eq_ld, h1.read_unread, h2.read_unread, h3.read_unread, View.ld_unit_zero (S := S1x1x2000) hz3, View.ld_unit_zero (S := S2000x256) hz2, View.ld_unit_zero (S := S512x1) hz2, View.ld_unit_zero (S := S512x256) hz2]
  all_goals rfl

theorem out_B_3 (hc : ¬cond5_0 i) : out5_B_3 c i a1 h1 a2 h2 a3 h3 a4 h4 a5 h5 hc x0 x1 x2 xo4 = k2_pay3 x1 x0 x2 := by
  unfold out5_B_3
  rw [View.read_writes_eq_canon _ _ _ (cover5_B_3 c i a1 h1 a2 h2 a3 h3 a4 h4 a5 h5 hc x0 x1 x2 xo4)]
  unfold kernelRun5_B
  dsimp only
  sl_unfold_words
  rw [View.canon_unit_zero hz3]
  simp only [View.readAt_eq_ld, h1.read_unread, h2.read_unread, h3.read_unread, h5.read_unread, View.ld_unit_zero (S := S1x1x2000) hz3, View.ld_unit_zero (S := S2000x256) hz2, View.ld_unit_zero (S := S512x1) hz2, View.ld_unit_zero (S := S512x256) hz2]
  all_goals rfl

theorem out_A_4 (hc : cond5_0 i) : out5_A_4 c i a1 h1 a2 h2 a3 h3 a4 h4 a5 h5 hc x0 x1 x2 = k2_pay5 x1 x0 x2 k2_pay4 := by
  unfold out5_A_4
  rw [View.read_writes_eq_canon _ _ _ (cover5_A_4 c i a1 h1 a2 h2 a3 h3 a4 h4 a5 h5 hc x0 x1 x2)]
  unfold kernelRun5_A
  dsimp only
  sl_unfold_words
  rw [View.canon_cons_unit_zero (S := S512x1) hz2, View.readCov_unit_zero (S := S512x1) _ hz2]
  simp only [View.readAt_eq_ld, h1.read_unread, h2.read_unread, h3.read_unread, View.ld_unit_zero (S := S1x1x2000) hz3, View.ld_unit_zero (S := S2000x256) hz2, View.ld_unit_zero (S := S512x1) hz2, View.ld_unit_zero (S := S512x256) hz2]
  all_goals rfl

theorem out_B_4 (hc : ¬cond5_0 i) : out5_B_4 c i a1 h1 a2 h2 a3 h3 a4 h4 a5 h5 hc x0 x1 x2 xo4 = k2_pay5 x1 x0 x2 xo4 := by
  unfold out5_B_4
  rw [View.read_writes_eq_canon _ _ _ (cover5_B_4 c i a1 h1 a2 h2 a3 h3 a4 h4 a5 h5 hc x0 x1 x2 xo4)]
  unfold kernelRun5_B
  dsimp only
  sl_unfold_words
  rw [View.canon_unit_zero hz2]
  simp only [View.readAt_eq_ld, h1.read_unread, h2.read_unread, h3.read_unread, h5.read_unread, View.ld_unit_zero (S := S1x1x2000) hz3, View.ld_unit_zero (S := S2000x256) hz2, View.ld_unit_zero (S := S512x1) hz2, View.ld_unit_zero (S := S512x256) hz2]
  all_goals rfl

end Out

/-! ## The blocks read off the arrays -/

theorem index_0 : ∀ t : Fin cfg5.N, win5_0.index t 0 = t.val ∧ win5_0.index t 1 = 0 := by decide +kernel
theorem index_1 : ∀ t : Fin cfg5.N, win5_1.index t 0 = 0 ∧ win5_1.index t 1 = 0 := by decide +kernel
theorem index_2 : ∀ t : Fin cfg5.N, win5_2.index t 0 = t.val ∧ win5_2.index t 1 = 0 ∧ win5_2.index t 2 = 0 := by decide +kernel
theorem index_3 : ∀ t : Fin cfg5.N, win5_3.index t 0 = t.val ∧ win5_3.index t 1 = 0 ∧ win5_3.index t 2 = 0 := by decide +kernel
theorem index_4 : ∀ t : Fin cfg5.N, win5_4.index t 0 = 0 ∧ win5_4.index t 1 = 0 := by decide +kernel

/-- A point of the grid as a block number. -/
abbrev pt (t : Fin cfg5.N) : Fin 25 := ⟨t.val, Nat.lt_of_lt_of_eq t.isLt N_5⟩

variable (V : (c : Dev nD) → (b : Ref sig .tc) → Buf (Elt Ideal) ((c : Thread nD τ).loc b)) (c : Dev nD)

theorem blk_0 (t : Fin cfg5.N) (n : Fin 2000) (k : Fin 256) :
    (iblk5 V c 0 t : Vec Ideal S2000x256 .f32) (ix2 n k) = (V c main_v1_0 : Vec Ideal S50000x256 .f32) (ix2 (row (pt t) n) k) := by
  obtain ⟨e0, e1⟩ := index_0 t
  unfold iblk5
  rw [View.read_apply]
  show (V c main_v1_0 : Vec Ideal S50000x256 .f32) _ = _
  congr 1
  funext a
  apply Fin.ext
  match a with
  | ⟨0, _⟩ => show win5_0.index t 0 * 2000 + 1 * n.val = 2000 * t.val + n.val; rw [e0]; omega
  | ⟨1, _⟩ => show win5_0.index t 1 * 256 + 1 * k.val = k.val; rw [e1]; omega

theorem blk_1 (t : Fin cfg5.N) (g : Fin 512) (k : Fin 256) :
    (iblk5 V c 1 t : Vec Ideal S512x256 .f32) (ix2 g k) = (V c main_v5 : Vec Ideal S512x256 .f32) (ix2 g k) := by
  obtain ⟨e0, e1⟩ := index_1 t
  unfold iblk5
  rw [View.read_apply]
  show (V c main_v5 : Vec Ideal S512x256 .f32) _ = _
  congr 1
  funext a
  apply Fin.ext
  match a with
  | ⟨0, _⟩ => show win5_1.index t 0 * 512 + 1 * g.val = g.val; rw [e0]; omega
  | ⟨1, _⟩ => show win5_1.index t 1 * 256 + 1 * k.val = k.val; rw [e1]; omega

theorem blk_2 (t : Fin cfg5.N) (n : Fin 2000) :
    (iblk5 V c 2 t : Vec Ideal S1x1x2000 .i32) (ix3 0 0 n) = (V c main_v0 : Vec Ideal S25x1x2000 .i32) (ix3 (pt t) 0 n) := by
  obtain ⟨e0, e1, e2⟩ := index_2 t
  unfold iblk5
  rw [View.read_apply]
  show (V c main_v0 : Vec Ideal S25x1x2000 .i32) _ = _
  congr 1
  funext a
  apply Fin.ext
  match a with
  | ⟨0, _⟩ => show win5_2.index t 0 * 1 + 1 * 0 = t.val; rw [e0]; omega
  | ⟨1, _⟩ => show win5_2.index t 1 * 1 + 1 * 0 = 0; rw [e1]
  | ⟨2, _⟩ => show win5_2.index t 2 * 2000 + 1 * n.val = n.val; rw [e2]; omega

abbrev att : Fin 50000 → Fin 256 → EReal := mat (V c main_v1_0 : FVec Ideal S50000x256 .f32)
abbrev gf : Fin 512 → Fin 256 → EReal := mat (V c main_v5 : FVec Ideal S512x256 .f32)
abbrev bat : Fin 50000 → BitVec 32 := unblock (V c main_v0 : IVec S25x1x2000 32)

theorem mat_blk (t : Fin cfg5.N) : mat (iblk5 V c 0 t : FVec Ideal S2000x256 .f32) = fun n => att V c (row (pt t) n) :=
  funext fun n => funext fun k => blk_0 V c t n k

theorem gf_blk (t : Fin cfg5.N) : mat (iblk5 V c 1 t : FVec Ideal S512x256 .f32) = gf V c :=
  funext fun g => funext fun k => blk_1 V c t g k

theorem words_blk (t : Fin cfg5.N) : words (iblk5 V c 2 t : IVec S1x1x2000 32) = fun n => bat V c (row (pt t) n) :=
  funext fun n => (blk_2 V c t n).trans (unblock_row _ (pt t) n).symm

/-! ## What the outputs hold -/

theorem out_3 (t : Fin cfg5.N) : (outsAt5 V c t.val t.isLt).1 = k2_pay3 (iblk5 V c 1 t) (iblk5 V c 0 t) (iblk5 V c 2 t) := by
  by_cases h : t.val % 25 = 0
  · rw [outsAt5_A V c t h, out_A_3]
  · rw [outsAt5_B V c t h, out_B_3]

theorem out_4 : ∀ (n : ℕ) (h : n < cfg5.N) (g : Fin 512), (outsAt5 V c n h).2 (ix2 g 0)
      = Finset.univ.fold max ⊥ fun s : Fin (n + 1) => top (fun r => bat V c (row ⟨s.val, by have : cfg5.N = 25 := N_5; omega⟩ r)) (gf V c)
          (fun r => att V c (row ⟨s.val, by have : cfg5.N = 25 := N_5; omega⟩ r)) g
  | 0, h, g => by
    rw [outsAt5_A V c ⟨0, h⟩ rfl, out_A_4]
    dsimp only
    rw [pay_max, pay_bot, words_blk, mat_blk, gf_blk, max_succ]
    rfl
  | n + 1, h, g => by
    have hN : cfg5.N = 25 := N_5
    have hB : ¬(⟨n + 1, h⟩ : Fin cfg5.N).val % 25 = 0 := by dsimp only; omega
    rw [outsAt5_B V c ⟨n + 1, h⟩ hB, out_B_4]
    dsimp only
    rw [pay_max, words_blk, mat_blk, gf_blk, max_succ]
    exact congrArg (max · _) (out_4 n (Nat.lt_of_succ_lt h) g)

/-! ## The arrays at the end -/

def scores : FVec Ideal S25x1x2000 .f32 := block (score (bat V c) (gf V c) (att V c))
def tops : FVec Ideal S512x1 .f32 := fun i => top (bat V c) (gf V c) (att V c) (i 0)

theorem flushed_3 (t : Fin cfg5.N) (hf : (cfg5.win 3).flush t = true) :
    (dat5 V c).flushed 3 t = ((cfg5.win 3).blk t).view.read (Elt Ideal) (scores V c : Buf (Elt Ideal) ((c : Thread nD τ).loc main_v6_0)) := by
  show (cfg5.win 3).cut (grid5.coords t) ((dat5 V c).after 3 t) = _
  rw [after5_3, out_3]
  show k2_pay3 (iblk5 V c 1 t) (iblk5 V c 0 t) (iblk5 V c 2 t) = _
  funext j
  obtain ⟨a, b, n, rfl⟩ : ∃ (a : Fin 1) (b : Fin 1) (n : Fin 2000), j = ix3 a b n := ⟨j 0, j 1, j 2, eq_ix3 j⟩
  obtain rfl : a = 0 := Subsingleton.elim _ _
  obtain rfl : b = 0 := Subsingleton.elim _ _
  rw [pay_score, View.read_apply, words_blk, mat_blk, gf_blk]
  obtain ⟨e0, e1, e2⟩ := index_3 t
  have hemb : ((cfg5.win 3).blk t).view.emb (ix3 0 0 n) = (ix3 (pt t) 0 n : S25x1x2000.Idx) := by
    funext a
    apply Fin.ext
    match a with
    | ⟨0, _⟩ => show win5_3.index t 0 * 1 + 1 * 0 = t.val; rw [e0]; omega
    | ⟨1, _⟩ => show win5_3.index t 1 * 1 + 1 * 0 = 0; rw [e1]
    | ⟨2, _⟩ => show win5_3.index t 2 * 2000 + 1 * n.val = n.val; rw [e2]; omega
  rw [hemb]
  refine Eq.trans ?_ (cast_eq rfl _).symm
  show _ = score (bat V c) (gf V c) (att V c) (row (pt t) n)
  rfl

theorem final_3 : (dat5 V c).arrAt 3 cfg5.N = (scores V c : Buf (Elt Ideal) ((c : Thread nD τ).loc main_v6_0)) :=
  (dat5 V c).arrAt_eq_of_cover 3 (scores V c) (flushed_3 V c) fun i => by
    have hi0 : (i 0 : Nat) < 25 := (i 0).isLt
    have hi1 : (i 1 : Nat) < 1 := (i 1).isLt
    have hi2 : (i 2 : Nat) < 2000 := (i 2).isLt
    let t : Fin cfg5.N := ⟨(i 0 : Nat), by rw [show cfg5.N = 25 from N_5]; omega⟩
    refine ⟨t, flush5_3 t, ?_⟩
    show i ∈ ((View.whole main_v6_0).slice (win5_3.rect t)).set
    obtain ⟨e0, e1, e2⟩ := index_3 t
    rw [View.set_slice_whole, Rect.mem_set_unit]
    intro a
    match a with
    | ⟨0, _⟩ => show win5_3.index t 0 * 1 ≤ (i 0 : Nat) ∧ (i 0 : Nat) < win5_3.index t 0 * 1 + 1
                rw [e0]; show (i 0 : Nat) * 1 ≤ (i 0 : Nat) ∧ (i 0 : Nat) < (i 0 : Nat) * 1 + 1; omega
    | ⟨1, _⟩ => show win5_3.index t 1 * 1 ≤ (i 1 : Nat) ∧ (i 1 : Nat) < win5_3.index t 1 * 1 + 1
                rw [e1]; omega
    | ⟨2, _⟩ => show win5_3.index t 2 * 2000 ≤ (i 2 : Nat) ∧ (i 2 : Nat) < win5_3.index t 2 * 2000 + 2000
                rw [e2]; omega

/-- The last point. -/
abbrev tl : Fin cfg5.N := ⟨24, by rw [show cfg5.N = 25 from N_5]; decide⟩

theorem eq_tl (t : Fin cfg5.N) (h : t.val % 25 = 24) : t = tl := by
  have hN : cfg5.N = 25 := N_5
  have := t.isLt
  exact Fin.ext (by show t.val = 24; omega)

theorem flushed_4 (t : Fin cfg5.N) (hf : (cfg5.win 4).flush t = true) :
    (dat5 V c).flushed 4 t = ((cfg5.win 4).blk t).view.read (Elt Ideal) (tops V c : Buf (Elt Ideal) ((c : Thread nD τ).loc main_v6_1)) := by
  obtain rfl : t = tl := eq_tl t ((flush5_4 t).mp hf)
  show (cfg5.win 4).cut (grid5.coords tl) ((dat5 V c).after 4 tl) = _
  rw [after5_4]
  show (outsAt5 V c 24 _).2 = _
  funext j
  obtain ⟨g, z, rfl⟩ : ∃ (g : Fin 512) (z : Fin 1), j = ix2 g z := ⟨j 0, j 1, eq_ix2 j⟩
  obtain rfl : z = 0 := Subsingleton.elim _ _
  rw [out_4 V c 24 _ g, View.read_apply]
  obtain ⟨e0, e1⟩ := index_4 tl
  have hemb : ((cfg5.win 4).blk tl).view.emb (ix2 g 0) = (ix2 g 0 : S512x1.Idx) := by
    funext a
    apply Fin.ext
    match a with
    | ⟨0, _⟩ => show win5_4.index tl 0 * 512 + 1 * g.val = g.val; rw [e0]; omega
    | ⟨1, _⟩ => show win5_4.index tl 1 * 1 + 1 * 0 = 0; rw [e1]
  rw [hemb, top_rows (B := bat V c) (G := gf V c) (X := att V c) g]
  refine Eq.trans ?_ (cast_eq rfl _).symm
  show top (bat V c) (gf V c) (att V c) g = top (bat V c) (gf V c) (att V c) ((ix2 g 0 : S512x1.Idx) 0)
  rfl

theorem final_4 : (dat5 V c).arrAt 4 cfg5.N = (tops V c : Buf (Elt Ideal) ((c : Thread nD τ).loc main_v6_1)) :=
  (dat5 V c).arrAt_eq_of_cover 4 (tops V c) (flushed_4 V c) fun i => by
    have hi0 : (i 0 : Nat) < 512 := (i 0).isLt
    have hi1 : (i 1 : Nat) < 1 := (i 1).isLt
    refine ⟨tl, (flush5_4 tl).mpr rfl, ?_⟩
    show i ∈ ((View.whole main_v6_1).slice (win5_4.rect tl)).set
    obtain ⟨e0, e1⟩ := index_4 tl
    rw [View.set_slice_whole, Rect.mem_set_unit]
    intro a
    match a with
    | ⟨0, _⟩ => show win5_4.index tl 0 * 512 ≤ (i 0 : Nat) ∧ (i 0 : Nat) < win5_4.index tl 0 * 512 + 512
                rw [e0]; omega
    | ⟨1, _⟩ => show win5_4.index tl 1 * 1 ≤ (i 1 : Nat) ∧ (i 1 : Nat) < win5_4.index tl 1 * 1 + 1
                rw [e1]; omega

end Cert.KernelIdeal.Reg5
end
-- ==== Proof.Reg6.lean ====
/- The weights of each graph summed, and the rows summed by their weights. -/
module

public import proofs.«01_k».proof.Proof.Blocks
public import proofs.«01_k».proof.Proof.Gen.KernelIdeal.Frame.Region6
public import Idealize.ShloMosaic.Lib.Pipeline.Value
public import Idealize.ShloMosaic.Lib.Tactic

@[expose] public section

set_option maxRecDepth 16384

noncomputable section

namespace Cert.KernelIdeal.Reg6

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

section Out
variable {F : FTy → Type} [FloatOps F]
variable (c : Dev nD) (i : grid6.Coords)
  (a1 : Memref sig .tc .vmem S2000x256 .f32) (h1 : a1.IsWhole)
  (a2 : Memref sig .tc .vmem S1x1x2000 .i32) (h2 : a2.IsWhole)
  (a3 : Memref sig .tc .vmem S1x1x2000 .f32) (h3 : a3.IsWhole)
  (a4 : Memref sig .tc .vmem S512x1 .f32) (h4 : a4.IsWhole)
  (a5 : Memref sig .tc .vmem S512x1 .f32) (h5 : a5.IsWhole)
  (a6 : Memref sig .tc .vmem S512x256 .f32) (h6 : a6.IsWhole)
  (x0 : Vec F S2000x256 .f32)
  (x1 : Vec F S1x1x2000 .i32)
  (x2 : Vec F S1x1x2000 .f32)
  (x3 : Vec F S512x1 .f32)
  (xo4 : Vec F S512x1 .f32)
  (xo5 : Vec F S512x256 .f32)

theorem out_A_4 (hc : cond6_0 i) : out6_A_4 c i a1 h1 a2 h2 a3 h3 a4 h4 a5 h5 a6 h6 hc x0 x1 x2 x3 = k3_pay6 x1 x3 x2 k3_pay4 := by
  unfold out6_A_4
  rw [View.read_writes_eq_canon _ _ _ (cover6_A_4 c i a1 h1 a2 h2 a3 h3 a4 h4 a5 h5 a6 h6 hc x0 x1 x2 x3)]
  unfold kernelRun6_A
  dsimp only
  sl_unfold_words
  rw [View.canon_cons_unit_zero (S := S512x1) hz2, View.readCov_unit_zero (S := S512x1) _ hz2]
  simp only [View.readAt_eq_ld, h1.read_unread, h2.read_unread, h3.read_unread, h4.read_unread, View.ld_unit_zero (S := S1x1x2000) hz3, View.ld_unit_zero (S := S2000x256) hz2, View.ld_unit_zero (S := S512x1) hz2, View.ld_unit_zero (S := S512x256) hz2]
  all_goals rfl

theorem out_B_4 (hc : ¬cond6_0 i) : out6_B_4 c i a1 h1 a2 h2 a3 h3 a4 h4 a5 h5 a6 h6 hc x0 x1 x2 x3 xo4 xo5 = k3_pay6 x1 x3 x2 xo4 := by
  unfold out6_B_4
  rw [View.read_writes_eq_canon _ _ _ (cover6_B_4 c i a1 h1 a2 h2 a3 h3 a4 h4 a5 h5 a6 h6 hc x0 x1 x2 x3 xo4 xo5)]
  unfold kernelRun6_B
  dsimp only
  sl_unfold_words
  rw [View.canon_unit_zero hz2]
  simp only [View.readAt_eq_ld, h1.read_unread, h2.read_unread, h3.read_unread, h4.read_unread, h5.read_unread, h6.read_unread, View.ld_unit_zero (S := S1x1x2000) hz3, View.ld_unit_zero (S := S2000x256) hz2, View.ld_unit_zero (S := S512x1) hz2, View.ld_unit_zero (S := S512x256) hz2]
  all_goals rfl

theorem out_A_5 (hc : cond6_0 i) : out6_A_5 c i a1 h1 a2 h2 a3 h3 a4 h4 a5 h5 a6 h6 hc x0 x1 x2 x3 = k3_pay1 (k3_pay3 x1 x3 x2 x0) k3_pay5 := by
  unfold out6_A_5
  rw [View.read_writes_eq_canon _ _ _ (cover6_A_5 c i a1 h1 a2 h2 a3 h3 a4 h4 a5 h5 a6 h6 hc x0 x1 x2 x3)]
  unfold kernelRun6_A
  dsimp only
  sl_unfold_words
  rw [View.canon_cons_unit_zero (S := S512x256) hz2, View.readCov_unit_zero (S := S512x256) _ hz2]
  simp only [View.readAt_eq_ld, h1.read_unread, h2.read_unread, h3.read_unread, h4.read_unread, View.ld_unit_zero (S := S1x1x2000) hz3, View.ld_unit_zero (S := S2000x256) hz2, View.ld_unit_zero (S := S512x1) hz2, View.ld_unit_zero (S := S512x256) hz2]
  all_goals rfl

theorem out_B_5 (hc : ¬cond6_0 i) : out6_B_5 c i a1 h1 a2 h2 a3 h3 a4 h4 a5 h5 a6 h6 hc x0 x1 x2 x3 xo4 xo5 = k3_pay1 (k3_pay3 x1 x3 x2 x0) xo5 := by
  unfold out6_B_5
  rw [View.read_writes_eq_canon _ _ _ (cover6_B_5 c i a1 h1 a2 h2 a3 h3 a4 h4 a5 h5 a6 h6 hc x0 x1 x2 x3 xo4 xo5)]
  unfold kernelRun6_B
  dsimp only
  sl_unfold_words
  rw [View.canon_unit_zero hz2]
  simp only [View.readAt_eq_ld, h1.read_unread, h2.read_unread, h3.read_unread, h4.read_unread, h5.read_unread, h6.read_unread, View.ld_unit_zero (S := S1x1x2000) hz3, View.ld_unit_zero (S := S2000x256) hz2, View.ld_unit_zero (S := S512x1) hz2, View.ld_unit_zero (S := S512x256) hz2]
  all_goals rfl

end Out

/-! ## The blocks read off the arrays -/

theorem index_0 : ∀ t : Fin cfg6.N, win6_0.index t 0 = t.val ∧ win6_0.index t 1 = 0 := by decide +kernel
theorem index_1 : ∀ t : Fin cfg6.N, win6_1.index t 0 = t.val ∧ win6_1.index t 1 = 0 ∧ win6_1.index t 2 = 0 := by decide +kernel
theorem index_2 : ∀ t : Fin cfg6.N, win6_2.index t 0 = t.val ∧ win6_2.index t 1 = 0 ∧ win6_2.index t 2 = 0 := by decide +kernel
theorem index_3 : ∀ t : Fin cfg6.N, win6_3.index t 0 = 0 ∧ win6_3.index t 1 = 0 := by decide +kernel
theorem index_4 : ∀ t : Fin cfg6.N, win6_4.index t 0 = 0 ∧ win6_4.index t 1 = 0 := by decide +kernel
theorem index_5 : ∀ t : Fin cfg6.N, win6_5.index t 0 = 0 ∧ win6_5.index t 1 = 0 := by decide +kernel

/-- A point of the grid as a block number. -/
abbrev pt (t : Fin cfg6.N) : Fin 25 := ⟨t.val, Nat.lt_of_lt_of_eq t.isLt N_6⟩

variable (V : (c : Dev nD) → (b : Ref sig .tc) → Buf (Elt Ideal) ((c : Thread nD τ).loc b)) (c : Dev nD)

theorem blk_0 (t : Fin cfg6.N) (n : Fin 2000) (k : Fin 256) :
    (iblk6 V c 0 t : Vec Ideal S2000x256 .f32) (ix2 n k) = (V c main_arg0 : Vec Ideal S50000x256 .f32) (ix2 (row (pt t) n) k) := by
  obtain ⟨e0, e1⟩ := index_0 t
  unfold iblk6
  rw [View.read_apply]
  show (V c main_arg0 : Vec Ideal S50000x256 .f32) _ = _
  congr 1
  funext a
  apply Fin.ext
  match a with
  | ⟨0, _⟩ => show win6_0.index t 0 * 2000 + 1 * n.val = 2000 * t.val + n.val; rw [e0]; omega
  | ⟨1, _⟩ => show win6_0.index t 1 * 256 + 1 * k.val = k.val; rw [e1]; omega

theorem blk_1 (t : Fin cfg6.N) (n : Fin 2000) :
    (iblk6 V c 1 t : Vec Ideal S1x1x2000 .i32) (ix3 0 0 n) = (V c main_v0 : Vec Ideal S25x1x2000 .i32) (ix3 (pt t) 0 n) := by
  obtain ⟨e0, e1, e2⟩ := index_1 t
  unfold iblk6
  rw [View.read_apply]
  show (V c main_v0 : Vec Ideal S25x1x2000 .i32) _ = _
  congr 1
  funext a
  apply Fin.ext
  match a with
  | ⟨0, _⟩ => show win6_1.index t 0 * 1 + 1 * 0 = t.val; rw [e0]; omega
  | ⟨1, _⟩ => show win6_1.index t 1 * 1 + 1 * 0 = 0; rw [e1]
  | ⟨2, _⟩ => show win6_1.index t 2 * 2000 + 1 * n.val = n.val; rw [e2]; omega

theorem blk_2 (t : Fin cfg6.N) (n : Fin 2000) :
    (iblk6 V c 2 t : Vec Ideal S1x1x2000 .f32) (ix3 0 0 n) = (V c main_v6_0 : Vec Ideal S25x1x2000 .f32) (ix3 (pt t) 0 n) := by
  obtain ⟨e0, e1, e2⟩ := index_2 t
  unfold iblk6
  rw [View.read_apply]
  show (V c main_v6_0 : Vec Ideal S25x1x2000 .f32) _ = _
  congr 1
  funext a
  apply Fin.ext
  match a with
  | ⟨0, _⟩ => show win6_2.index t 0 * 1 + 1 * 0 = t.val; rw [e0]; omega
  | ⟨1, _⟩ => show win6_2.index t 1 * 1 + 1 * 0 = 0; rw [e1]
  | ⟨2, _⟩ => show win6_2.index t 2 * 2000 + 1 * n.val = n.val; rw [e2]; omega

theorem blk_3 (t : Fin cfg6.N) (g : Fin 512) :
    (iblk6 V c 3 t : Vec Ideal S512x1 .f32) (ix2 g 0) = (V c main_v6_1 : Vec Ideal S512x1 .f32) (ix2 g 0) := by
  obtain ⟨e0, e1⟩ := index_3 t
  unfold iblk6
  rw [View.read_apply]
  show (V c main_v6_1 : Vec Ideal S512x1 .f32) _ = _
  congr 1
  funext a
  apply Fin.ext
  match a with
  | ⟨0, _⟩ => show win6_3.index t 0 * 512 + 1 * g.val = g.val; rw [e0]; omega
  | ⟨1, _⟩ => show win6_3.index t 1 * 1 + 1 * 0 = 0; rw [e1]

abbrev node : Fin 50000 → Fin 256 → EReal := mat (V c main_arg0 : FVec Ideal S50000x256 .f32)
abbrev bat : Fin 50000 → BitVec 32 := unblock (V c main_v0 : IVec S25x1x2000 32)
abbrev sco : Fin 50000 → EReal := unblock (V c main_v6_0 : FVec Ideal S25x1x2000 .f32)
abbrev mx : Fin 512 → EReal := col (V c main_v6_1 : FVec Ideal S512x1 .f32)

theorem mat_blk (t : Fin cfg6.N) : mat (iblk6 V c 0 t : FVec Ideal S2000x256 .f32) = fun n => node V c (row (pt t) n) :=
  funext fun n => funext fun k => blk_0 V c t n k

theorem words_blk (t : Fin cfg6.N) : words (iblk6 V c 1 t : IVec S1x1x2000 32) = fun n => bat V c (row (pt t) n) :=
  funext fun n => (blk_1 V c t n).trans (unblock_row _ (pt t) n).symm

theorem lane_blk (t : Fin cfg6.N) : lane (iblk6 V c 2 t : FVec Ideal S1x1x2000 .f32) = fun n => sco V c (row (pt t) n) :=
  funext fun n => (blk_2 V c t n).trans (unblock_row _ (pt t) n).symm

theorem col_blk (t : Fin cfg6.N) : col (iblk6 V c 3 t : FVec Ideal S512x1 .f32) = mx V c :=
  funext fun g => blk_3 V c t g

/-! ## What the outputs hold -/

theorem out_4 : ∀ (n : ℕ) (h : n < cfg6.N) (g : Fin 512), (outsAt6 V c n h).1 (ix2 g 0) = ∑ s : Fin (n + 1), wsum (fun r => bat V c (row ⟨s.val, by have : cfg6.N = 25 := N_6; omega⟩ r)) (mx V c) (fun r => sco V c (row ⟨s.val, by have : cfg6.N = 25 := N_6; omega⟩ r)) g
  | 0, h, g => by
    rw [outsAt6_A V c ⟨0, h⟩ rfl, out_A_4]
    dsimp only
    rw [pay_wsum, pay_zero3, zero_add, words_blk, lane_blk, col_blk]
    simp only [Nat.reduceAdd, Finset.univ_unique, Finset.sum_singleton]
    rfl
  | n + 1, h, g => by
    have hN : cfg6.N = 25 := N_6
    have hB : ¬(⟨n + 1, h⟩ : Fin cfg6.N).val % 25 = 0 := by dsimp only; omega
    rw [outsAt6_B V c ⟨n + 1, h⟩ hB, out_B_4]
    dsimp only
    rw [pay_wsum, words_blk, lane_blk, col_blk, Fin.sum_univ_castSucc]
    exact congrArg (· + _) (out_4 n (Nat.lt_of_succ_lt h) g)

theorem out_5 : ∀ (n : ℕ) (h : n < cfg6.N) (g : Fin 512) (k : Fin 256), (outsAt6 V c n h).2 (ix2 g k) = ∑ s : Fin (n + 1), wctx (fun r => bat V c (row ⟨s.val, by have : cfg6.N = 25 := N_6; omega⟩ r)) (mx V c) (fun r => sco V c (row ⟨s.val, by have : cfg6.N = 25 := N_6; omega⟩ r)) (fun r => node V c (row ⟨s.val, by have : cfg6.N = 25 := N_6; omega⟩ r)) g k
  | 0, h, g, k => by
    rw [outsAt6_A V c ⟨0, h⟩ rfl, out_A_5]
    dsimp only
    rw [pay_wctx, pay_zero4, zero_add, words_blk, lane_blk, col_blk, mat_blk]
    simp only [Nat.reduceAdd, Finset.univ_unique, Finset.sum_singleton]
    rfl
  | n + 1, h, g, k => by
    have hN : cfg6.N = 25 := N_6
    have hB : ¬(⟨n + 1, h⟩ : Fin cfg6.N).val % 25 = 0 := by dsimp only; omega
    rw [outsAt6_B V c ⟨n + 1, h⟩ hB, out_B_5]
    dsimp only
    rw [pay_wctx, words_blk, lane_blk, col_blk, mat_blk, Fin.sum_univ_castSucc]
    exact congrArg (· + _) (out_5 n (Nat.lt_of_succ_lt h) g k)

/-! ## The arrays at the end -/

def wsums : FVec Ideal S512x1 .f32 := fun i => wsum (bat V c) (mx V c) (sco V c) (i 0)
def wctxs : FVec Ideal S512x256 .f32 := fun i => wctx (bat V c) (mx V c) (sco V c) (node V c) (i 0) (i 1)

/-- The last point. -/
abbrev tl : Fin cfg6.N := ⟨24, by rw [show cfg6.N = 25 from N_6]; decide⟩

theorem eq_tl (t : Fin cfg6.N) (h : t.val % 25 = 24) : t = tl := by
  have hN : cfg6.N = 25 := N_6
  have := t.isLt
  exact Fin.ext (by show t.val = 24; omega)

theorem flushed_4 (t : Fin cfg6.N) (hf : (cfg6.win 4).flush t = true) :
    (dat6 V c).flushed 4 t = ((cfg6.win 4).blk t).view.read (Elt Ideal) (wsums V c : Buf (Elt Ideal) ((c : Thread nD τ).loc main_v7_0)) := by
  obtain rfl : t = tl := eq_tl t ((flush6_4 t).mp hf)
  show (cfg6.win 4).cut (grid6.coords tl) ((dat6 V c).after 4 tl) = _
  rw [after6_4]
  show (outsAt6 V c 24 _).1 = _
  funext j
  obtain ⟨g, z, rfl⟩ : ∃ (g : Fin 512) (z : Fin 1), j = ix2 g z := ⟨j 0, j 1, eq_ix2 j⟩
  obtain rfl : z = 0 := Subsingleton.elim _ _
  rw [out_4 V c 24 _ g, View.read_apply]
  obtain ⟨e0, e1⟩ := index_4 tl
  have hemb : ((cfg6.win 4).blk tl).view.emb (ix2 g 0) = (ix2 g 0 : S512x1.Idx) := by
    funext a
    apply Fin.ext
    match a with
    | ⟨0, _⟩ => show win6_4.index tl 0 * 512 + 1 * g.val = g.val; rw [e0]; omega
    | ⟨1, _⟩ => show win6_4.index tl 1 * 1 + 1 * 0 = 0; rw [e1]
  rw [hemb, wsum_rows (B := bat V c) (M := mx V c) (S := sco V c) g]
  refine Eq.trans ?_ (cast_eq rfl _).symm
  show wsum (bat V c) (mx V c) (sco V c) g = wsum (bat V c) (mx V c) (sco V c) ((ix2 g 0 : S512x1.Idx) 0)
  rfl

theorem final_4 : (dat6 V c).arrAt 4 cfg6.N = (wsums V c : Buf (Elt Ideal) ((c : Thread nD τ).loc main_v7_0)) :=
  (dat6 V c).arrAt_eq_of_cover 4 (wsums V c) (flushed_4 V c) fun i => by
    have hi0 : (i 0 : Nat) < 512 := (i 0).isLt
    have hi1 : (i 1 : Nat) < 1 := (i 1).isLt
    refine ⟨tl, (flush6_4 tl).mpr rfl, ?_⟩
    show i ∈ ((View.whole main_v7_0).slice (win6_4.rect tl)).set
    obtain ⟨e0, e1⟩ := index_4 tl
    rw [View.set_slice_whole, Rect.mem_set_unit]
    intro a
    match a with
    | ⟨0, _⟩ => show win6_4.index tl 0 * 512 ≤ (i 0 : Nat) ∧ (i 0 : Nat) < win6_4.index tl 0 * 512 + 512
                rw [e0]; omega
    | ⟨1, _⟩ => show win6_4.index tl 1 * 1 ≤ (i 1 : Nat) ∧ (i 1 : Nat) < win6_4.index tl 1 * 1 + 1
                rw [e1]; omega

theorem flushed_5 (t : Fin cfg6.N) (hf : (cfg6.win 5).flush t = true) :
    (dat6 V c).flushed 5 t = ((cfg6.win 5).blk t).view.read (Elt Ideal) (wctxs V c : Buf (Elt Ideal) ((c : Thread nD τ).loc main_v7_1)) := by
  obtain rfl : t = tl := eq_tl t ((flush6_5 t).mp hf)
  show (cfg6.win 5).cut (grid6.coords tl) ((dat6 V c).after 5 tl) = _
  rw [after6_5]
  show (outsAt6 V c 24 _).2 = _
  funext j
  obtain ⟨g, k, rfl⟩ : ∃ (g : Fin 512) (k : Fin 256), j = ix2 g k := ⟨j 0, j 1, eq_ix2 j⟩
  rw [out_5 V c 24 _ g k, View.read_apply]
  obtain ⟨e0, e1⟩ := index_5 tl
  have hemb : ((cfg6.win 5).blk tl).view.emb (ix2 g k) = (ix2 g k : S512x256.Idx) := by
    funext a
    apply Fin.ext
    match a with
    | ⟨0, _⟩ => show win6_5.index tl 0 * 512 + 1 * g.val = g.val; rw [e0]; omega
    | ⟨1, _⟩ => show win6_5.index tl 1 * 256 + 1 * k.val = k.val; rw [e1]; omega
  rw [hemb, wctx_rows (B := bat V c) (M := mx V c) (S := sco V c) (X := node V c) g k]
  refine Eq.trans ?_ (cast_eq rfl _).symm
  show wctx (bat V c) (mx V c) (sco V c) (node V c) g k = wctx (bat V c) (mx V c) (sco V c) (node V c) ((ix2 g k : S512x256.Idx) 0) ((ix2 g k : S512x256.Idx) 1)
  rfl

theorem final_5 : (dat6 V c).arrAt 5 cfg6.N = (wctxs V c : Buf (Elt Ideal) ((c : Thread nD τ).loc main_v7_1)) :=
  (dat6 V c).arrAt_eq_of_cover 5 (wctxs V c) (flushed_5 V c) fun i => by
    have hi0 : (i 0 : Nat) < 512 := (i 0).isLt
    have hi1 : (i 1 : Nat) < 256 := (i 1).isLt
    refine ⟨tl, (flush6_5 tl).mpr rfl, ?_⟩
    show i ∈ ((View.whole main_v7_1).slice (win6_5.rect tl)).set
    obtain ⟨e0, e1⟩ := index_5 tl
    rw [View.set_slice_whole, Rect.mem_set_unit]
    intro a
    match a with
    | ⟨0, _⟩ => show win6_5.index tl 0 * 512 ≤ (i 0 : Nat) ∧ (i 0 : Nat) < win6_5.index tl 0 * 512 + 512
                rw [e0]; omega
    | ⟨1, _⟩ => show win6_5.index tl 1 * 256 ≤ (i 1 : Nat) ∧ (i 1 : Nat) < win6_5.index tl 1 * 256 + 256
                rw [e1]; omega

end Cert.KernelIdeal.Reg6
end
-- ==== Proof.Reg7.lean ====
/- The recurrent cell on the weighted means. -/
module

public import proofs.«01_k».proof.Proof.Blocks
public import proofs.«01_k».proof.Proof.Gen.KernelIdeal.Frame.Region7
public import Idealize.ShloMosaic.Lib.Pipeline.Value
public import Idealize.ShloMosaic.Lib.Tactic

@[expose] public section

set_option maxRecDepth 16384

noncomputable section

namespace Cert.KernelIdeal.Reg7

open Idealize.ShloMosaic Idealize.ShloMosaic.TcCoe Idealize.SL.Sem
open Idealize.ShloMosaic.Pipeline (Dat)
open Cert.KernelIdeal Cert.KernelIdeal.Gen Cert.KernelIdeal.Pay Cert.KernelIdeal.Blocks Readout

variable (V : (c : Dev nD) → (b : Ref sig .tc) → Buf (Elt Ideal) ((c : Thread nD τ).loc b)) (c : Dev nD)

theorem blk_0 (t : Fin cfg7.N) : (iblk7 V c 0 t : Vec Ideal S512x256 .f32) = (V c main_v7_1 : Vec Ideal S512x256 .f32) := by
  funext j
  unfold iblk7
  rw [View.read_apply]
  show (V c main_v7_1 : Vec Ideal S512x256 .f32) _ = _
  congr 1
  funext a
  apply Fin.ext
  match a with
  | ⟨0, _⟩ => show 0 * 512 + 1 * (j 0).val = (j 0).val; omega
  | ⟨1, _⟩ => show 0 * 256 + 1 * (j 1).val = (j 1).val; omega

theorem blk_1 (t : Fin cfg7.N) : (iblk7 V c 1 t : Vec Ideal S512x1 .f32) = (V c main_v7_0 : Vec Ideal S512x1 .f32) := by
  funext j
  unfold iblk7
  rw [View.read_apply]
  show (V c main_v7_0 : Vec Ideal S512x1 .f32) _ = _
  congr 1
  funext a
  apply Fin.ext
  match a with
  | ⟨0, _⟩ => show 0 * 512 + 1 * (j 0).val = (j 0).val; omega
  | ⟨1, _⟩ => show 0 * 1 + 1 * (j 1).val = (j 1).val; omega

theorem blk_2 (t : Fin cfg7.N) : (iblk7 V c 2 t : Vec Ideal S512x256 .f32) = (V c main_v5 : Vec Ideal S512x256 .f32) := by
  funext j
  unfold iblk7
  rw [View.read_apply]
  show (V c main_v5 : Vec Ideal S512x256 .f32) _ = _
  congr 1
  funext a
  apply Fin.ext
  match a with
  | ⟨0, _⟩ => show 0 * 512 + 1 * (j 0).val = (j 0).val; omega
  | ⟨1, _⟩ => show 0 * 256 + 1 * (j 1).val = (j 1).val; omega

theorem blk_3 (t : Fin cfg7.N) : (iblk7 V c 3 t : Vec Ideal S768x256 .f32) = (V c main_arg3 : Vec Ideal S768x256 .f32) := by
  funext j
  unfold iblk7
  rw [View.read_apply]
  show (V c main_arg3 : Vec Ideal S768x256 .f32) _ = _
  congr 1
  funext a
  apply Fin.ext
  match a with
  | ⟨0, _⟩ => show 0 * 768 + 1 * (j 0).val = (j 0).val; omega
  | ⟨1, _⟩ => show 0 * 256 + 1 * (j 1).val = (j 1).val; omega

theorem blk_4 (t : Fin cfg7.N) : (iblk7 V c 4 t : Vec Ideal S768x256 .f32) = (V c main_arg4 : Vec Ideal S768x256 .f32) := by
  funext j
  unfold iblk7
  rw [View.read_apply]
  show (V c main_arg4 : Vec Ideal S768x256 .f32) _ = _
  congr 1
  funext a
  apply Fin.ext
  match a with
  | ⟨0, _⟩ => show 0 * 768 + 1 * (j 0).val = (j 0).val; omega
  | ⟨1, _⟩ => show 0 * 256 + 1 * (j 1).val = (j 1).val; omega

theorem blk_5 (t : Fin cfg7.N) : (iblk7 V c 5 t : Vec Ideal S768 .f32) = (V c main_arg5 : Vec Ideal S768 .f32) := by
  funext j
  unfold iblk7
  rw [View.read_apply]
  show (V c main_arg5 : Vec Ideal S768 .f32) _ = _
  congr 1
  funext a
  apply Fin.ext
  match a with
  | ⟨0, _⟩ => show 0 * 768 + 1 * (j 0).val = (j 0).val; omega

theorem blk_6 (t : Fin cfg7.N) : (iblk7 V c 6 t : Vec Ideal S768 .f32) = (V c main_arg6 : Vec Ideal S768 .f32) := by
  funext j
  unfold iblk7
  rw [View.read_apply]
  show (V c main_arg6 : Vec Ideal S768 .f32) _ = _
  congr 1
  funext a
  apply Fin.ext
  match a with
  | ⟨0, _⟩ => show 0 * 768 + 1 * (j 0).val = (j 0).val; omega

theorem out_eq (x0 : Vec Ideal S512x256 .f32) (x1 : Vec Ideal S512x1 .f32) (x2 : Vec Ideal S512x256 .f32) (x3 : Vec Ideal S768x256 .f32) (x4 : Vec Ideal S768x256 .f32) (x5 : Vec Ideal S768 .f32) (x6 : Vec Ideal S768 .f32) : out7_7 x0 x1 x2 x3 x4 x5 x6 = k4_pay1 x0 x1 x2 x3 x5 x4 x6 := by
  unfold out7_7
  rw [View.canon_unit_zero hz2]
  simp only [View.ld_unit_zero (S := S512x1) hz2, View.ld_unit_zero (S := S512x256) hz2, View.ld_unit_zero (S := S768) hz1, View.ld_unit_zero (S := S768x256) hz2]
  all_goals rfl

def res : FVec Ideal S512x256 .f32 := fun i =>
  cell (fun j => Ideal.div (mat (V c main_v7_1 : FVec Ideal S512x256 .f32) (i 0) j) (col (V c main_v7_0 : FVec Ideal S512x1 .f32) (i 0) + eps))
    (mat (V c main_v5 : FVec Ideal S512x256 .f32) (i 0)) (mat (V c main_arg3 : FVec Ideal S768x256 .f32)) (mat (V c main_arg4 : FVec Ideal S768x256 .f32))
    (vec (V c main_arg5 : FVec Ideal S768 .f32)) (vec (V c main_arg6 : FVec Ideal S768 .f32)) (i 1)

theorem flushed_7 (t : Fin cfg7.N) (hf : (cfg7.win 7).flush t = true) :
    (dat7 V c).flushed 7 t = ((cfg7.win 7).blk t).view.read (Elt Ideal) (res V c : Buf (Elt Ideal) ((c : Thread nD τ).loc main_v8)) := by
  show (cfg7.win 7).cut (grid7.coords t) ((dat7 V c).after 7 t) = _
  rw [after7_7, out_eq, blk_0, blk_1, blk_2, blk_3, blk_4, blk_5, blk_6]
  funext j
  obtain ⟨g, k, rfl⟩ : ∃ (g : Fin 512) (k : Fin 256), j = ix2 g k := ⟨j 0, j 1, eq_ix2 j⟩
  rw [View.read_apply]
  have hemb : ((cfg7.win 7).blk t).view.emb (ix2 g k) = (ix2 g k : S512x256.Idx) := by
    funext a
    apply Fin.ext
    match a with
    | ⟨0, _⟩ => show 0 * 512 + 1 * g.val = g.val; omega
    | ⟨1, _⟩ => show 0 * 256 + 1 * k.val = k.val; omega
  rw [hemb]
  refine Eq.trans ?_ (cast_eq rfl _).symm
  show k4_pay1 (V c main_v7_1 : Vec Ideal S512x256 .f32) (V c main_v7_0 : Vec Ideal S512x1 .f32) (V c main_v5 : Vec Ideal S512x256 .f32) (V c main_arg3 : Vec Ideal S768x256 .f32) (V c main_arg5 : Vec Ideal S768 .f32) (V c main_arg4 : Vec Ideal S768x256 .f32) (V c main_arg6 : Vec Ideal S768 .f32) (ix2 g k) = _
  rw [pay_cell]
  rfl

theorem final_7 : (dat7 V c).arrAt 7 cfg7.N = (res V c : Buf (Elt Ideal) ((c : Thread nD τ).loc main_v8)) :=
  (dat7 V c).arrAt_eq_of_cover 7 (res V c) (flushed_7 V c) fun i => by
    have hi0 : (i 0 : Nat) < 512 := (i 0).isLt
    have hi1 : (i 1 : Nat) < 256 := (i 1).isLt
    let t : Fin cfg7.N := ⟨0, by rw [show cfg7.N = 1 from N_7]; omega⟩
    refine ⟨t, flush7_7 t, ?_⟩
    show i ∈ ((View.whole main_v8).slice (win7_7.rect t)).set
    rw [View.set_slice_whole, Rect.mem_set_unit]
    intro a
    match a with
    | ⟨0, _⟩ => show 0 * 512 ≤ (i 0 : Nat) ∧ (i 0 : Nat) < 0 * 512 + 512; omega
    | ⟨1, _⟩ => show 0 * 256 ≤ (i 1 : Nat) ∧ (i 1 : Nat) < 0 * 256 + 256; omega

end Cert.KernelIdeal.Reg7
end
-- ==== Proof.Chain.lean ====
/- The kernel's result array as a function of its arguments. -/
module

public import proofs.«01_k».proof.Proof.Reg0
public import proofs.«01_k».proof.Proof.Reg1
public import proofs.«01_k».proof.Proof.Reg2
public import proofs.«01_k».proof.Proof.Reg3
public import proofs.«01_k».proof.Proof.Reg4
public import proofs.«01_k».proof.Proof.Reg5
public import proofs.«01_k».proof.Proof.Reg6
public import proofs.«01_k».proof.Proof.Reg7
public import proofs.«01_k».proof.Proof.Gen.KernelIdeal.Frame

@[expose] public section

set_option maxRecDepth 16384

noncomputable section

namespace Cert.KernelIdeal.Chain

open Idealize.ShloMosaic Idealize.ShloMosaic.TcCoe Idealize.SL.Sem
open Cert.KernelIdeal Cert.KernelIdeal.Gen Cert.KernelIdeal.Pay Cert.KernelIdeal.Blocks Readout

variable (m : (ℓ : Loc nD τ sig) → Buf (Elt Ideal) ℓ) (ρ : Dev nD → PrngReg) (c : Dev nD)

/-! ## The arguments by index -/

abbrev node : Fin 50000 → Fin 256 → EReal := mat (m ((c : Thread nD τ).loc main_arg0) : FVec Ideal S50000x256 .f32)
abbrev bat : Fin 50000 → BitVec 32 := fun n => (m ((c : Thread nD τ).loc main_arg1) : IVec S50000 32) (ix1 n)
abbrev wa : Fin 256 → Fin 256 → EReal := mat (m ((c : Thread nD τ).loc main_arg2) : FVec Ideal S256x256 .f32)
abbrev wi : Fin 768 → Fin 256 → EReal := mat (m ((c : Thread nD τ).loc main_arg3) : FVec Ideal S768x256 .f32)
abbrev wh : Fin 768 → Fin 256 → EReal := mat (m ((c : Thread nD τ).loc main_arg4) : FVec Ideal S768x256 .f32)
abbrev bi : Fin 768 → EReal := vec (m ((c : Thread nD τ).loc main_arg5) : FVec Ideal S768 .f32)
abbrev bh : Fin 768 → EReal := vec (m ((c : Thread nD τ).loc main_arg6) : FVec Ideal S768 .f32)

/-! ## The batch words, blocked -/

theorem words_1 : (V1 m ρ c main_v0 : IVec S25x1x2000 32) = block (bat m c) := by
  have h : (V1 m ρ c main_v0 : IVec S25x1x2000 32)
      = shapeCast S25x1x2000 (m ((c : Thread nD τ).loc main_arg1) : IVec S50000 32) shapeCasts_S50000_S25x1x2000 := by
    show StableHlo.after hostOps0 (W0 m ρ c) (Proc.devRef .tc main_v0) = _
    simp only [StableHlo.after_cons, StableHlo.after_nil]
    rfl
  rw [h]
  funext i
  obtain ⟨t, z, n, rfl⟩ : ∃ (t : Fin 25) (z : Fin 1) (n : Fin 2000), i = ix3 t z n := ⟨i 0, i 1, i 2, eq_ix3 i⟩
  obtain rfl : z = 0 := Subsingleton.elim _ _
  pointwise []
  show bat m c ⟨t.val * 2000 + n.val, _⟩ = bat m c ⟨2000 * t.val + n.val, _⟩
  congr 1
  apply Fin.ext
  show t.val * 2000 + n.val = 2000 * t.val + n.val
  omega

theorem words_2 : V2 m ρ c main_v0 = V1 m ρ c main_v0 := W2_of m ρ c main_v0 (by decide +kernel)
theorem words_3 : V3 m ρ c main_v0 = V1 m ρ c main_v0 := (W3_of m ρ c main_v0 (by decide +kernel)).trans (words_2 m ρ c)
theorem words_4 : V4 m ρ c main_v0 = V1 m ρ c main_v0 := (W4_of m ρ c main_v0 (by decide +kernel)).trans (words_3 m ρ c)
theorem words_5 : V5 m ρ c main_v0 = V1 m ρ c main_v0 := (W5_of m ρ c main_v0 (by decide +kernel)).trans (words_4 m ρ c)
theorem words_6 : V6 m ρ c main_v0 = V1 m ρ c main_v0 := (W6_of m ρ c main_v0 (by decide +kernel)).trans (words_5 m ρ c)
theorem words_7 : V7 m ρ c main_v0 = V1 m ρ c main_v0 := (W7_of m ρ c main_v0 (by decide +kernel)).trans (words_6 m ρ c)

/-- The batch words by row, wherever the blocked array is as the host wrote it. -/
theorem bat_eq (b : IVec S25x1x2000 32) (h : b = (V1 m ρ c main_v0 : IVec S25x1x2000 32)) : unblock b = bat m c := by
  rw [h, words_1 m ρ c, unblock_block]

theorem pass_of {B : Fin 50000 → BitVec 32} {X A : Fin 50000 → Fin 256 → EReal} {wi wh wi' wh' : Fin 768 → Fin 256 → EReal} {bi bh bi' bh' : Fin 768 → EReal}
    {G G' : Fin 512 → Fin 256 → EReal} {x : Fin 512 → Fin 256 → EReal} {s : Fin 512 → EReal} (hx : x = wctx B (top B G A) (score B G A) X)
    (hs : s = wsum B (top B G A) (score B G A)) (hg : G' = G) (h1 : wi' = wi) (h2 : wh' = wh) (h3 : bi' = bi) (h4 : bh' = bh) :
    (fun g k => cell (fun j => Ideal.div (x g j) (s g + eps)) (G' g) wi' wh' bi' bh' k) = pass B X A wi wh bi bh G := by
  subst hx hs hg h1 h2 h3 h4
  rfl

/-! ## The first call -/

theorem r0_att : (V2 m ρ c main_v1_0 : FVec Ideal S50000x256 .f32) = Reg0.att (V1 m ρ) c := (W2_arr m ρ c 3).trans (Reg0.final_3 (V1 m ρ) c)
theorem r0_cnt : (V2 m ρ c main_v1_1 : FVec Ideal S512x1 .f32) = Reg0.counts (V1 m ρ) c := (W2_arr m ρ c 4).trans (Reg0.final_4 (V1 m ρ) c)
theorem r0_sum : (V2 m ρ c main_v1_2 : FVec Ideal S512x256 .f32) = Reg0.sums (V1 m ρ) c := (W2_arr m ρ c 5).trans (Reg0.final_5 (V1 m ρ) c)

theorem node_1 : Reg0.node (V1 m ρ) c = node m c := congrArg mat (W1_args m ρ c main_arg0 (by decide))
theorem wa_1 : Reg0.wt2 (V1 m ρ) c = wa m c := congrArg mat (W1_args m ρ c main_arg2 (by decide))
theorem bat_1 : Reg0.bat (V1 m ρ) c = bat m c := bat_eq m ρ c _ rfl

theorem att_2 : mat (V2 m ρ c main_v1_0 : FVec Ideal S50000x256 .f32) = attend (node m c) (wa m c) := by
  rw [r0_att, ← node_1 m ρ c, ← wa_1 m ρ c]
  rfl

theorem cnt_2 : col (V2 m ρ c main_v1_1 : FVec Ideal S512x1 .f32) = cnt (bat m c) := by
  rw [r0_cnt, ← bat_1 m ρ c]
  rfl

theorem sum_2 : mat (V2 m ρ c main_v1_2 : FVec Ideal S512x256 .f32) = total (bat m c) (node m c) := by
  rw [r0_sum, ← bat_1 m ρ c, ← node_1 m ρ c]
  rfl

/-! ## The means -/

theorem means_3 : mat (V3 m ρ c main_v2 : FVec Ideal S512x256 .f32) = means (bat m c) (node m c) := by
  have h : (V3 m ρ c main_v2 : FVec Ideal S512x256 .f32) = Reg1.res (V2 m ρ) c := (W3_arr m ρ c 2).trans (Reg1.final_2 (V2 m ρ) c)
  rw [h]
  unfold means
  rw [← sum_2 m ρ c, ← cnt_2 m ρ c]
  rfl

theorem att_3 : mat (V3 m ρ c main_v1_0 : FVec Ideal S50000x256 .f32) = attend (node m c) (wa m c) :=
  (congrArg mat (W3_of m ρ c main_v1_0 (by decide +kernel))).trans (att_2 m ρ c)

/-! ## The first pass -/

theorem score_4 : unblock (V4 m ρ c main_v3_0 : FVec Ideal S25x1x2000 .f32) = score (bat m c) (means (bat m c) (node m c)) (attend (node m c) (wa m c)) := by
  have h : (V4 m ρ c main_v3_0 : FVec Ideal S25x1x2000 .f32) = Reg2.scores (V3 m ρ) c := (W4_arr m ρ c 3).trans (Reg2.final_3 (V3 m ρ) c)
  rw [h, Reg2.scores, unblock_block]
  show score (unblock (V3 m ρ c main_v0 : IVec S25x1x2000 32)) (mat (V3 m ρ c main_v2 : FVec Ideal S512x256 .f32)) (mat (V3 m ρ c main_v1_0 : FVec Ideal S50000x256 .f32)) = _
  rw [bat_eq m ρ c _ (words_3 m ρ c), att_3 m ρ c, means_3 m ρ c]

theorem top_4 : col (V4 m ρ c main_v3_1 : FVec Ideal S512x1 .f32) = top (bat m c) (means (bat m c) (node m c)) (attend (node m c) (wa m c)) := by
  have h : (V4 m ρ c main_v3_1 : FVec Ideal S512x1 .f32) = Reg2.tops (V3 m ρ) c := (W4_arr m ρ c 4).trans (Reg2.final_4 (V3 m ρ) c)
  rw [h]
  show top (unblock (V3 m ρ c main_v0 : IVec S25x1x2000 32)) (mat (V3 m ρ c main_v2 : FVec Ideal S512x256 .f32)) (mat (V3 m ρ c main_v1_0 : FVec Ideal S50000x256 .f32)) = _
  rw [bat_eq m ρ c _ (words_3 m ρ c), att_3 m ρ c, means_3 m ρ c]

theorem node_4 : mat (V4 m ρ c main_arg0 : FVec Ideal S50000x256 .f32) = node m c := congrArg mat (W4_args m ρ c main_arg0 (by decide))

theorem wsum_5 : col (V5 m ρ c main_v4_0 : FVec Ideal S512x1 .f32) = wsum (bat m c) (top (bat m c) (means (bat m c) (node m c)) (attend (node m c) (wa m c))) (score (bat m c) (means (bat m c) (node m c)) (attend (node m c) (wa m c))) := by
  have h : (V5 m ρ c main_v4_0 : FVec Ideal S512x1 .f32) = Reg3.wsums (V4 m ρ) c := (W5_arr m ρ c 4).trans (Reg3.final_4 (V4 m ρ) c)
  rw [h]
  show wsum (unblock (V4 m ρ c main_v0 : IVec S25x1x2000 32)) (col (V4 m ρ c main_v3_1 : FVec Ideal S512x1 .f32)) (unblock (V4 m ρ c main_v3_0 : FVec Ideal S25x1x2000 .f32)) = _
  rw [bat_eq m ρ c _ (words_4 m ρ c), score_4 m ρ c, top_4 m ρ c]

theorem wctx_5 : mat (V5 m ρ c main_v4_1 : FVec Ideal S512x256 .f32) = wctx (bat m c) (top (bat m c) (means (bat m c) (node m c)) (attend (node m c) (wa m c))) (score (bat m c) (means (bat m c) (node m c)) (attend (node m c) (wa m c))) (node m c) := by
  have h : (V5 m ρ c main_v4_1 : FVec Ideal S512x256 .f32) = Reg3.wctxs (V4 m ρ) c := (W5_arr m ρ c 5).trans (Reg3.final_5 (V4 m ρ) c)
  rw [h]
  show wctx (unblock (V4 m ρ c main_v0 : IVec S25x1x2000 32)) (col (V4 m ρ c main_v3_1 : FVec Ideal S512x1 .f32)) (unblock (V4 m ρ c main_v3_0 : FVec Ideal S25x1x2000 .f32))
    (mat (V4 m ρ c main_arg0 : FVec Ideal S50000x256 .f32)) = _
  rw [bat_eq m ρ c _ (words_4 m ρ c), score_4 m ρ c, top_4 m ρ c, node_4 m ρ c]

theorem means_5 : mat (V5 m ρ c main_v2 : FVec Ideal S512x256 .f32) = (means (bat m c) (node m c)) :=
  (congrArg mat ((W5_of m ρ c main_v2 (by decide +kernel)).trans (W4_of m ρ c main_v2 (by decide +kernel)))).trans (means_3 m ρ c)

theorem means_6 : mat (V6 m ρ c main_v5 : FVec Ideal S512x256 .f32) = pass (bat m c) (node m c) (attend (node m c) (wa m c)) (wi m c) (wh m c) (bi m c) (bh m c) (means (bat m c) (node m c)) := by
  have h : (V6 m ρ c main_v5 : FVec Ideal S512x256 .f32) = Reg4.res (V5 m ρ) c := (W6_arr m ρ c 7).trans (Reg4.final_7 (V5 m ρ) c)
  have hwi : mat (V5 m ρ c main_arg3 : FVec Ideal S768x256 .f32) = wi m c := congrArg mat (W5_args m ρ c main_arg3 (by decide))
  have hwh : mat (V5 m ρ c main_arg4 : FVec Ideal S768x256 .f32) = wh m c := congrArg mat (W5_args m ρ c main_arg4 (by decide))
  have hbi : vec (V5 m ρ c main_arg5 : FVec Ideal S768 .f32) = bi m c := congrArg vec (W5_args m ρ c main_arg5 (by decide))
  have hbh : vec (V5 m ρ c main_arg6 : FVec Ideal S768 .f32) = bh m c := congrArg vec (W5_args m ρ c main_arg6 (by decide))
  rw [h]
  exact pass_of (wctx_5 m ρ c) (wsum_5 m ρ c) (means_5 m ρ c) hwi hwh hbi hbh

theorem att_6 : mat (V6 m ρ c main_v1_0 : FVec Ideal S50000x256 .f32) = attend (node m c) (wa m c) :=
  (congrArg mat ((W6_of m ρ c main_v1_0 (by decide +kernel)).trans ((W5_of m ρ c main_v1_0 (by decide +kernel)).trans
    (W4_of m ρ c main_v1_0 (by decide +kernel))))).trans (att_3 m ρ c)

/-! ## The second pass -/

theorem score_7 : unblock (V7 m ρ c main_v6_0 : FVec Ideal S25x1x2000 .f32) = score (bat m c) (pass (bat m c) (node m c) (attend (node m c) (wa m c)) (wi m c) (wh m c) (bi m c) (bh m c) (means (bat m c) (node m c))) (attend (node m c) (wa m c)) := by
  have h : (V7 m ρ c main_v6_0 : FVec Ideal S25x1x2000 .f32) = Reg5.scores (V6 m ρ) c := (W7_arr m ρ c 3).trans (Reg5.final_3 (V6 m ρ) c)
  rw [h, Reg5.scores, unblock_block]
  show score (unblock (V6 m ρ c main_v0 : IVec S25x1x2000 32)) (mat (V6 m ρ c main_v5 : FVec Ideal S512x256 .f32)) (mat (V6 m ρ c main_v1_0 : FVec Ideal S50000x256 .f32)) = _
  rw [bat_eq m ρ c _ (words_6 m ρ c), att_6 m ρ c, means_6 m ρ c]

theorem top_7 : col (V7 m ρ c main_v6_1 : FVec Ideal S512x1 .f32) = top (bat m c) (pass (bat m c) (node m c) (attend (node m c) (wa m c)) (wi m c) (wh m c) (bi m c) (bh m c) (means (bat m c) (node m c))) (attend (node m c) (wa m c)) := by
  have h : (V7 m ρ c main_v6_1 : FVec Ideal S512x1 .f32) = Reg5.tops (V6 m ρ) c := (W7_arr m ρ c 4).trans (Reg5.final_4 (V6 m ρ) c)
  rw [h]
  show top (unblock (V6 m ρ c main_v0 : IVec S25x1x2000 32)) (mat (V6 m ρ c main_v5 : FVec Ideal S512x256 .f32)) (mat (V6 m ρ c main_v1_0 : FVec Ideal S50000x256 .f32)) = _
  rw [bat_eq m ρ c _ (words_6 m ρ c), att_6 m ρ c, means_6 m ρ c]

theorem node_7 : mat (V7 m ρ c main_arg0 : FVec Ideal S50000x256 .f32) = node m c := congrArg mat (W7_args m ρ c main_arg0 (by decide))

theorem wsum_8 : col (V8 m ρ c main_v7_0 : FVec Ideal S512x1 .f32) = wsum (bat m c) (top (bat m c) (pass (bat m c) (node m c) (attend (node m c) (wa m c)) (wi m c) (wh m c) (bi m c) (bh m c) (means (bat m c) (node m c))) (attend (node m c) (wa m c))) (score (bat m c) (pass (bat m c) (node m c) (attend (node m c) (wa m c)) (wi m c) (wh m c) (bi m c) (bh m c) (means (bat m c) (node m c))) (attend (node m c) (wa m c))) := by
  have h : (V8 m ρ c main_v7_0 : FVec Ideal S512x1 .f32) = Reg6.wsums (V7 m ρ) c := (W8_arr m ρ c 4).trans (Reg6.final_4 (V7 m ρ) c)
  rw [h]
  show wsum (unblock (V7 m ρ c main_v0 : IVec S25x1x2000 32)) (col (V7 m ρ c main_v6_1 : FVec Ideal S512x1 .f32)) (unblock (V7 m ρ c main_v6_0 : FVec Ideal S25x1x2000 .f32)) = _
  rw [bat_eq m ρ c _ (words_7 m ρ c), score_7 m ρ c, top_7 m ρ c]

theorem wctx_8 : mat (V8 m ρ c main_v7_1 : FVec Ideal S512x256 .f32) = wctx (bat m c) (top (bat m c) (pass (bat m c) (node m c) (attend (node m c) (wa m c)) (wi m c) (wh m c) (bi m c) (bh m c) (means (bat m c) (node m c))) (attend (node m c) (wa m c))) (score (bat m c) (pass (bat m c) (node m c) (attend (node m c) (wa m c)) (wi m c) (wh m c) (bi m c) (bh m c) (means (bat m c) (node m c))) (attend (node m c) (wa m c))) (node m c) := by
  have h : (V8 m ρ c main_v7_1 : FVec Ideal S512x256 .f32) = Reg6.wctxs (V7 m ρ) c := (W8_arr m ρ c 5).trans (Reg6.final_5 (V7 m ρ) c)
  rw [h]
  show wctx (unblock (V7 m ρ c main_v0 : IVec S25x1x2000 32)) (col (V7 m ρ c main_v6_1 : FVec Ideal S512x1 .f32)) (unblock (V7 m ρ c main_v6_0 : FVec Ideal S25x1x2000 .f32))
    (mat (V7 m ρ c main_arg0 : FVec Ideal S50000x256 .f32)) = _
  rw [bat_eq m ρ c _ (words_7 m ρ c), score_7 m ρ c, top_7 m ρ c, node_7 m ρ c]

theorem means_8 : mat (V8 m ρ c main_v5 : FVec Ideal S512x256 .f32) = (pass (bat m c) (node m c) (attend (node m c) (wa m c)) (wi m c) (wh m c) (bi m c) (bh m c) (means (bat m c) (node m c))) :=
  (congrArg mat ((W8_of m ρ c main_v5 (by decide +kernel)).trans (W7_of m ρ c main_v5 (by decide +kernel)))).trans (means_6 m ρ c)

theorem means_9 : mat (V9 m ρ c main_v8 : FVec Ideal S512x256 .f32) = pass (bat m c) (node m c) (attend (node m c) (wa m c)) (wi m c) (wh m c) (bi m c) (bh m c) (pass (bat m c) (node m c) (attend (node m c) (wa m c)) (wi m c) (wh m c) (bi m c) (bh m c) (means (bat m c) (node m c))) := by
  have h : (V9 m ρ c main_v8 : FVec Ideal S512x256 .f32) = Reg7.res (V8 m ρ) c := (W9_arr m ρ c 7).trans (Reg7.final_7 (V8 m ρ) c)
  have hwi : mat (V8 m ρ c main_arg3 : FVec Ideal S768x256 .f32) = wi m c := congrArg mat (W8_args m ρ c main_arg3 (by decide))
  have hwh : mat (V8 m ρ c main_arg4 : FVec Ideal S768x256 .f32) = wh m c := congrArg mat (W8_args m ρ c main_arg4 (by decide))
  have hbi : vec (V8 m ρ c main_arg5 : FVec Ideal S768 .f32) = bi m c := congrArg vec (W8_args m ρ c main_arg5 (by decide))
  have hbh : vec (V8 m ρ c main_arg6 : FVec Ideal S768 .f32) = bh m c := congrArg vec (W8_args m ρ c main_arg6 (by decide))
  rw [h]
  exact pass_of (wctx_8 m ρ c) (wsum_8 m ρ c) (means_8 m ρ c) hwi hwh hbi hbh

/-- The result array. -/
def result : FVec Ideal S512x256 .f32 := fun i =>
  readout (bat m c) (node m c) (wa m c) (wi m c) (wh m c) (bi m c) (bh m c) (i 0) (i 1)

theorem result_eq : (W9 m ρ c (Proc.devRef .tc main_v8) : FVec Ideal S512x256 .f32) = result m c := by
  funext i
  rw [eq_ix2 i]
  exact congrFun (congrFun (means_9 m ρ c) (i 0)) (i 1)

end Cert.KernelIdeal.Chain
end
-- ==== Proof.KernelRun.lean ====
/- The kernel's run, its result array read at the end. -/
module

public import proofs.«01_k».proof.Proof.Chain

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer no scope owns ends at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c => h c)

theorem run : θ_run defs (onTc (τ := τ) (main (F := Ideal))) ⟨m, fun _ => 0, ρ⟩ (fun r => ∀ c : Dev nD,
      r.2.mem ((c.tc : Thread nD τ).loc main_v8) = (result m c : Buf (Elt Ideal) ((c.tc : Thread nD τ).loc main_v8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v8 (by decide))).trans (result_eq m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.KernelIdeal.Chain
end
-- ==== Proof.RefOps.lean ====
/- The reference's scatters and gathers by the rows' batch words, read at an index over the extended reals. -/
module

public import proofs.«01_k».proof.Proof.Math
public import proofs.«01_k».proof.Proof.Gen.ReferenceIdeal.Read
public import Idealize.ShloMosaic.Lib.Pointwise
public import Idealize.ShloMosaic.Lib.Routing.OpsPair
public import Idealize.ShloMosaic.Lib.Routing.OpsSet

@[expose] public section

set_option maxRecDepth 16384

noncomputable section

namespace Cert.ReferenceIdeal.Ops

open Idealize.ShloMosaic Idealize.SL.Sem
open Cert.ReferenceIdeal Cert.ReferenceIdeal.Gen Cert.ReferenceIdeal.Read Readout

abbrev d1 := scatter_S512_S50000x1_S50000_n_0_0_1
abbrev d2 := scatter_S512x256_S50000x1_S50000x256_1_0_0_1
abbrev g1 := gather_S512_S50000x1_S50000_n_0_n_n_0_1_1
abbrev g2 := gather_S512x256_S50000x1_S50000x256_1_0_n_n_0_1_1256

/-- A word read signed is a graph's number exactly when it is that graph's word. -/
theorem toInt_word (b : BitVec 32) (g : Fin 512) : b.toInt = (g.val : Int) ↔ word g = b := by
  have hg := g.isLt
  have e : (word g).toInt = (g.val : Int) := by
    rw [BitVec.toInt_eq_toNat_of_lt (by simp only [word, BitVec.toNat_ofNat]; omega)]
    simp only [word, BitVec.toNat_ofNat]
    omega
  constructor
  · intro h
    exact BitVec.eq_of_toInt_eq (e.trans h.symm)
  · rintro rfl
    exact e

/-! ## Where an update lands -/

theorem si1 (n : Fin 50000) (c) : d1.siIdx (ix1 n) c = ix2 n (0 : Fin 1) := by
  funext b
  apply Fin.ext
  match b with
  | ⟨0, _⟩ => rfl
  | ⟨1, _⟩ =>
    have := (d1.siIdx (ix1 n) c ⟨1, by decide⟩).isLt
    show (d1.siIdx (ix1 n) c ⟨1, _⟩).val = 0
    have h : (S50000x1).size ⟨1, by decide⟩ = 1 := rfl
    omega

theorem si2 (n : Fin 50000) (j : Fin 256) (c) : d2.siIdx (ix2 n j) c = ix2 n (0 : Fin 1) := by
  funext b
  apply Fin.ext
  match b with
  | ⟨0, _⟩ => rfl
  | ⟨1, _⟩ =>
    have := (d2.siIdx (ix2 n j) c ⟨1, by decide⟩).isLt
    show (d2.siIdx (ix2 n j) c ⟨1, _⟩).val = 0
    have h : (S50000x1).size ⟨1, by decide⟩ = 1 := rfl
    omega

theorem lands1 (idx : IVec S50000x1 32) (n : Fin 50000) (g : Fin 512) :
    d1.resultIdx? (ix1 n) idx = some (ix1 g) ↔ word g = idx (ix2 n (0 : Fin 1)) := by
  have hs : d1.start (ix1 n) idx 0 = (idx (ix2 n (0 : Fin 1))).toInt := by
    unfold ScatterDims.start
    rw [dif_pos (by decide), si1]
  have hw : d1.window (ix1 n) 0 = 0 := by
    unfold ScatterDims.window
    rw [dif_neg (by decide)]
  refine (Routing.resultIdx?_ix1 d1 (ix1 n) idx g).trans ?_
  rw [hs, hw, ← toInt_word]
  simp

theorem lands2 (idx : IVec S50000x1 32) (n : Fin 50000) (j : Fin 256) (g : Fin 512) (k : Fin 256) :
    d2.resultIdx? (ix2 n j) idx = some (ix2 g k) ↔ word g = idx (ix2 n (0 : Fin 1)) ∧ j = k := by
  have hs : d2.start (ix2 n j) idx 0 = (idx (ix2 n (0 : Fin 1))).toInt := by
    unfold ScatterDims.start
    rw [dif_pos (by decide), si2]
  have hs1 : d2.start (ix2 n j) idx 1 = 0 := by
    unfold ScatterDims.start
    rw [dif_neg (by decide)]
  have hw : d2.window (ix2 n j) 0 = 0 := by
    unfold ScatterDims.window
    rw [dif_neg (by decide)]
  have hw1 : d2.window (ix2 n j) 1 = j.val := by
    unfold ScatterDims.window
    rw [dif_pos (by decide)]
    rfl
  refine (Routing.resultIdx?_ix2 d2 (ix2 n j) idx g k).trans ?_
  rw [hs, hs1, hw, hw1, ← toInt_word]
  simp [Fin.ext_iff]

/-! ## The scatters read at an index -/

theorem scatter1 (x : FVec Ideal S512 .f32) (idx : IVec S50000x1 32) (u : FVec Ideal S50000 .f32) (g : Fin 512) :
    Host.scatterAdd d1 x idx u (ix1 g) = x (ix1 g) + ∑ n : Fin 50000, if word g = idx (ix2 n (0 : Fin 1)) then u (ix1 n) else (0 : EReal) := by
  show x (ix1 g) + ∑ j ∈ Finset.univ.filter (fun j => d1.resultIdx? j idx = some (ix1 g)), u j = _
  refine congrArg (x (ix1 g) + ·) ?_
  rw [Finset.sum_filter]
  refine Fintype.sum_equiv ⟨fun j => j 0, fun n => ix1 n, fun j => by idx_vars j, fun n => rfl⟩ _ _ fun j => ?_
  idx_vars j
  simp only [lands1]
  rfl

theorem scatter2 (x : FVec Ideal S512x256 .f32) (idx : IVec S50000x1 32) (u : FVec Ideal S50000x256 .f32) (g : Fin 512) (k : Fin 256) :
    Host.scatterAdd d2 x idx u (ix2 g k) = x (ix2 g k) + ∑ n : Fin 50000, if word g = idx (ix2 n (0 : Fin 1)) then u (ix2 n k) else (0 : EReal) := by
  show x (ix2 g k) + ∑ j ∈ Finset.univ.filter (fun j => d2.resultIdx? j idx = some (ix2 g k)), u j = _
  refine congrArg (x (ix2 g k) + ·) ?_
  rw [Finset.sum_filter]
  trans ∑ p : Fin 50000 × Fin 256, if d2.resultIdx? (ix2 p.1 p.2) idx = some (ix2 g k) then u (ix2 p.1 p.2) else (0 : EReal)
  · refine Fintype.sum_equiv ⟨fun j => (j 0, j 1), fun p => ix2 p.1 p.2, fun j => by idx_vars j, fun p => rfl⟩ _ _ fun j => ?_
    idx_vars j
    rfl
  · rw [Fintype.sum_prod_type]
    refine Finset.sum_congr rfl fun n _ => ?_
    simp only [lands2, ite_and, Finset.sum_ite_irrel, Finset.sum_const_zero, Finset.sum_ite_eq', Finset.mem_univ, if_true]

/-! ## The gathers read at a member row -/

/-- The gathers' start indices: a negative word moved up by the number of graphs. -/
theorem starts_at (x1 : IVec S50000 32) (n : Fin 50000) (g : Fin 512) (h : word g = x1 (ix1 n)) :
    val_main_v17 (F := Ideal) x1 (ix2 n (0 : Fin 1)) = BitVec.ofNat 32 g.val := by
  have e : val_main_v17 (F := Ideal) x1 (ix2 n (0 : Fin 1))
      = Scalar.select (IntOp.cmpi .slt (x1 (ix1 n)) 0#32) (IntOp.addi (x1 (ix1 n)) 512#32) (x1 (ix1 n)) := by
    pointwise [val_main_v17, val_main_v16, val_main_v15, val_main_v14, val_main_c_3, val_main_v13, val_main_v12, val_main_c]
  rw [e, Routing.wrap_of_lt _ _ (by rw [← h]; simp only [word, BitVec.toNat_ofNat]; have := g.isLt; omega), ← h]

theorem take1 (x1 : IVec S50000 32) (T : FVec Ideal S512 .f32) (n : Fin 50000) (g : Fin 512) (h : word g = x1 (ix1 n)) :
    Host.gather g1 T (val_main_v17 (F := Ideal) x1) (ix1 n) = T (ix1 g) :=
  Routing.gather_take1 g1 rfl rfl rfl rfl T _ n g (starts_at x1 n g h) (by decide)

theorem take2 (x1 : IVec S50000 32) (T : FVec Ideal S512x256 .f32) (n : Fin 50000) (k : Fin 256) (g : Fin 512) (h : word g = x1 (ix1 n)) :
    Host.gather g2 T (val_main_v17 (F := Ideal) x1) (ix2 n k) = T (ix2 g k) :=
  Routing.gather_row g2 rfl rfl rfl rfl rfl T _ n k g (starts_at x1 n g h) (by decide)

end Cert.ReferenceIdeal.Ops
end
-- ==== Proof.RefPass.lean ====
/- One pass of the reference as a function of the graphs' features, and its value by rows and graphs over the extended
   reals. The two passes of the program are this one at the means and at the first pass's result. -/
module

public import proofs.«01_k».proof.Proof.RefOps
public import proofs.«01_k».proof.Proof.Pay

@[expose] public section

set_option maxRecDepth 16384

noncomputable section

namespace Cert.ReferenceIdeal.Pass

open Idealize.ShloMosaic Idealize.SL.Sem
open Cert.ReferenceIdeal Cert.ReferenceIdeal.Gen Cert.ReferenceIdeal.Read Cert.ReferenceIdeal.Ops Readout
open Cert.KernelIdeal.Pay (mat vec select_eq neg_inf fix_eq)

abbrev Rows := FVec Ideal S50000 .f32
abbrev Table := FVec Ideal S50000x256 .f32
abbrev Graphs := FVec Ideal S512 .f32
abbrev Feats := FVec Ideal S512x256 .f32
abbrev Batch := IVec S50000 32

/-! ## The pass, stage by stage -/

/-- The rows' inner products with the features gathered for them. -/
def scores (x1 : Batch) (a : Table) (gf : Feats) : Rows :=
  Host.reduceAdd (F := Ideal) (mulf a (Host.gather g2 gf (val_main_v17 (F := Ideal) x1))) (val_main_cst_4 (F := Ideal)) reducesTo_S50000x256_S50000_d1 h_S_

/-- The scores of a graph's own rows, negative infinity elsewhere. -/
def masked (x1 : Batch) (s : Rows) : FVec Ideal S512x50000 .f32 :=
  select (val_main_v28 (F := Ideal) x1)
    (broadcastInDim S512x50000 ![0, 1] bcast_S1x50000_S512x50000_0_1 (broadcastInDim S1x50000 ![1] bcast_S50000_S1x50000_1 s))
    (val_main_call0_v2 (F := Ideal))

/-- Each graph's largest score. -/
def tops (x1 : Batch) (s : Rows) : Graphs :=
  Host.reduce (FloatOps.maximumf (F := Ideal) (φ := .f32)) (masked x1 s) (val_main_cst_6 (F := Ideal)) reducesTo_S512x50000_S512_d1 h_S_

/-- The same with an infinity replaced by zero. -/
def finite (t : Graphs) : Graphs :=
  select (cmpf (F := Ideal) .olt (Host.absf t) (val_main_v33 (F := Ideal))) t (val_main_call1_v1 (F := Ideal))

/-- The rows' exponentials, shifted by their graph's largest score. -/
def exps (x1 : Batch) (s : Rows) (t : Graphs) : Rows :=
  Host.exp (F := Ideal) (subf s (Host.gather g1 t (val_main_v17 (F := Ideal) x1)))

/-- Each graph's sum of them. -/
def sums (x1 : Batch) (e : Rows) : Graphs :=
  Host.scatterAdd (F := Ideal) d1 (val_main_v45 (F := Ideal)) (val_main_v46 (F := Ideal) x1) e

/-- The rows' weights. -/
def weights (x1 : Batch) (e : Rows) (z : Graphs) : Rows :=
  Host.divf (F := Ideal) e (addf (Host.gather g1 z (val_main_v17 (F := Ideal) x1)) (val_main_v55 (F := Ideal)))

/-- The rows times their weights. -/
def weighted (x0 : Table) (w : Rows) : Table :=
  mulf (F := Ideal) x0 (broadcastInDim S50000x256 ![0, 1] bcast_S50000x1_S50000x256_0_1 (broadcastInDim S50000x1 ![0] bcast_S50000_S50000x1_0 w))

/-- Each graph's sum of those. -/
def contexts (x1 : Batch) (u : Table) : Feats :=
  Host.scatterAdd (F := Ideal) d2 (val_main_v61 (F := Ideal)) (val_main_v62 (F := Ideal) x1) u

/-- The gate sums of a table of features. -/
def gates (c : Feats) (w : FVec Ideal S768x256 .f32) (b : FVec Ideal S768 .f32) : FVec Ideal S512x768 .f32 :=
  addf (F := Ideal) (Host.dotGeneral dot_S512x256_S256x768_S512x768_1_0_0_1_n_n none c (transpose S256x768 [1, 0] w transposes_S768x256_S256x768_1_0))
    (broadcastInDim S512x768 ![0, 1] bcast_S1x768_S512x768_0_1 (broadcastInDim S1x768 ![1] bcast_S768_S1x768_1 b))

def slice0 (u : FVec Ideal S512x768 .f32) : Feats := extractStridedSlice S512x256 ![0, 0] u slices_S512x768_S512x256_0_0
def slice1 (u : FVec Ideal S512x768 .f32) : Feats := extractStridedSlice S512x256 ![0, 256] u slices_S512x768_S512x256_0_256
def slice2 (u : FVec Ideal S512x768 .f32) : Feats := extractStridedSlice S512x256 ![0, 512] u slices_S512x768_S512x256_0_512

/-- The logistic function as the reference writes it. -/
def sigmoid (v : Feats) : Feats :=
  Host.divf (F := Ideal) (val_main_v85 (F := Ideal)) (addf (val_main_v83 (F := Ideal)) (Host.exp (Host.negf v)))

/-- The recurrent cell from the two tables of gate sums. -/
def recur (u v : FVec Ideal S512x768 .f32) (h : Feats) : Feats :=
  addf (F := Ideal)
    (mulf (subf (val_main_v97 (F := Ideal)) (sigmoid (addf (slice1 u) (slice1 v))))
      (Host.tanh (addf (slice2 u) (mulf (sigmoid (addf (slice0 u) (slice0 v))) (slice2 v)))))
    (mulf (sigmoid (addf (slice1 u) (slice1 v))) h)

/-- The contexts of the features `gf`. -/
def attended (x0 : Table) (x1 : Batch) (a : Table) (gf : Feats) : Feats :=
  let s := scores x1 a gf
  let e := exps x1 s (finite (tops x1 s))
  contexts x1 (weighted x0 (weights x1 e (sums x1 e)))

/-- The whole pass. -/
def step (x0 : Table) (x1 : Batch) (x2 : FVec Ideal S256x256 .f32) (x3 x4 : FVec Ideal S768x256 .f32) (x5 x6 : FVec Ideal S768 .f32) (gf : Feats) : Feats :=
  recur (gates (attended x0 x1 (val_main_v20 (F := Ideal) x0 x2) gf) x3 x5) (gates gf x4 x6) gf

theorem first (x0 : Table) (x1 : Batch) (x2 : FVec Ideal S256x256 .f32) (x3 x4 : FVec Ideal S768x256 .f32) (x5 x6 : FVec Ideal S768 .f32) :
    val_main_v101 (F := Ideal) x0 x1 x2 x3 x4 x5 x6 = step x0 x1 x2 x3 x4 x5 x6 (val_main_v11 (F := Ideal) x0 x1) := rfl

theorem second (x0 : Table) (x1 : Batch) (x2 : FVec Ideal S256x256 .f32) (x3 x4 : FVec Ideal S768x256 .f32) (x5 x6 : FVec Ideal S768 .f32) :
    val_main_v191 (F := Ideal) x0 x1 x2 x3 x4 x5 x6 = step x0 x1 x2 x3 x4 x5 x6 (val_main_v101 (F := Ideal) x0 x1 x2 x3 x4 x5 x6) := rfl

/-! ## The stages read at an index -/

theorem attend_at (x0 : Table) (x2 : FVec Ideal S256x256 .f32) (n : Fin 50000) (k : Fin 256) :
    val_main_v20 (F := Ideal) x0 x2 (ix2 n k) = attend (mat x0) (mat x2) n k := by
  pointwise [val_main_v20, val_main_v19]
  rfl

theorem div_at {s : Shape} (p q : FVec Ideal s .f32) (i : s.Idx) : Host.divf (F := Ideal) p q i = Ideal.div (p i) (q i) := rfl

theorem means_at (x0 : Table) (x1 : Batch) (g : Fin 512) (k : Fin 256) :
    val_main_v11 (F := Ideal) x0 x1 (ix2 g k) = means (fun n => x1 (ix1 n)) (mat x0) g k := by
  have e5 : ∀ n : Fin 50000, val_main_v5 (F := Ideal) x1 (ix2 n (0 : Fin 1)) = x1 (ix1 n) := fun n => by pointwise [val_main_v5]
  have e2 : ∀ n : Fin 50000, val_main_v2 (F := Ideal) x1 (ix2 n (0 : Fin 1)) = x1 (ix1 n) := fun n => by pointwise [val_main_v2]
  have e6 : val_main_v6 (F := Ideal) x0 x1 (ix2 g k) = total (fun n => x1 (ix1 n)) (mat x0) g k := by
    refine (scatter2 _ _ _ g k).trans ?_
    have z : val_main_v4 (F := Ideal) (ix2 g k) = (0 : EReal) := by pointwise [val_main_v4, val_main_cst_1]
    rw [z, zero_add]
    simp only [e5]
    rfl
  have e3 : val_main_v3 (F := Ideal) x1 (ix1 g) = cnt (fun n => x1 (ix1 n)) g := by
    refine (scatter1 _ _ _ g).trans ?_
    have z : val_main_v1 (F := Ideal) (ix1 g) = (0 : EReal) := by pointwise [val_main_v1, val_main_cst_0]
    have o : ∀ n : Fin 50000, val_main_v0 (F := Ideal) (ix1 n) = (1 : EReal) := fun n => by pointwise [val_main_v0, val_main_cst]
    rw [z, zero_add]
    simp only [e2, o]
    rfl
  have e10 : val_main_v10 (F := Ideal) x1 (ix2 g k) = max (cnt (fun n => x1 (ix1 n)) g) 1 := by
    rw [← e3]
    pointwise [val_main_v10, val_main_v9, val_main_v8, val_main_v7, val_main_cst_2]
  unfold val_main_v11
  refine (div_at _ _ _).trans ?_
  rw [e6, e10]
  rfl

variable (x0 a : Table) (x1 : Batch) (gf : Feats)

theorem score_at (n : Fin 50000) (g : Fin 512) (h : word g = x1 (ix1 n)) :
    scores x1 a gf (ix1 n) = dot (mat gf) (mat a) g n := by
  have e : scores x1 a gf (ix1 n) = ∑ k : Fin 256, a (ix2 n k) * Host.gather g2 gf (val_main_v17 (F := Ideal) x1) (ix2 n k) := by
    generalize hq : Host.gather g2 gf (val_main_v17 (F := Ideal) x1) = q
    unfold scores
    rw [hq]
    pointwise [val_main_cst_4]
  rw [e]
  refine Finset.sum_congr rfl fun k _ => ?_
  rw [take2 x1 gf n k g h, mul_comm]

theorem score_member (n : Fin 50000) (g : Fin 512) (h : word g = x1 (ix1 n)) :
    score (fun n => x1 (ix1 n)) (mat gf) (mat a) n = scores x1 a gf (ix1 n) :=
  (sum_word (g := g) h _).trans (score_at a x1 gf n g h).symm

theorem masked_at (s : Rows) (g : Fin 512) (n : Fin 50000) :
    masked x1 s (ix2 g n) = if word g = x1 (ix1 n) then s (ix1 n) else (⊥ : EReal) := by
  unfold masked
  pointwise [val_main_v28, val_main_v27, val_main_v26, val_main_v25, val_main_v24, val_main_v23, val_main_call0_v2, val_main_call0_v0, val_main_cst_5]
  rw [select_eq]
  by_cases h : word g = x1 (ix1 n)
  · rw [if_pos h, if_pos h.symm]
  · rw [if_neg h, if_neg fun h' => h h'.symm]
    exact neg_inf

theorem tops_at (g : Fin 512) : tops x1 (scores x1 a gf) (ix1 g) = top (fun n => x1 (ix1 n)) (mat gf) (mat a) g := by
  have hm : ∀ n : Fin 50000, masked x1 (scores x1 a gf) (ix2 g n) = if word g = x1 (ix1 n) then dot (mat gf) (mat a) g n else (⊥ : EReal) := by
    intro n
    rw [masked_at]
    by_cases h : word g = x1 (ix1 n)
    · rw [if_pos h, if_pos h, score_at a x1 gf n g h]
    · rw [if_neg h, if_neg h]
  unfold top
  simp only [← hm]
  unfold tops
  pointwise [val_main_cst_6]
  rw [neg_inf]

theorem finite_at (t : Graphs) (g : Fin 512) : finite t (ix1 g) = fix (t (ix1 g)) := by
  unfold finite
  pointwise [val_main_v33, val_main_cst_7, val_main_call1_v1, val_main_call1_v0, val_main_cst_8]
  have hz : (id (constant (F := Ideal) S_ .f32 0#32) ix0 : EReal) = 0 := by
    show (Ideal.ofBits .f32 0#32 : EReal) = 0
    simp [Ideal.ofBits, Ideal.ieee]
  have hi : Ideal.ofBits .f32 2139095040#32 = (⊤ : EReal) := by simp [Ideal.ofBits, Ideal.ieee]
  rw [hz, hi]
  generalize t (ix1 g) = x
  show (if max (x : EReal) (-x) < ⊤ then (x : EReal) else 0) = if (x : EReal) = ⊤ ∨ (x : EReal) = ⊥ then 0 else x
  by_cases h : (x : EReal) = ⊤ ∨ (x : EReal) = ⊥
  · rw [if_pos h, if_neg]
    rcases h with h | h <;> rw [h] <;> simp
  · rw [if_neg h, if_pos]
    rw [max_lt_iff]
    refine ⟨lt_top_iff_ne_top.2 fun h' => h (Or.inl h'), lt_top_iff_ne_top.2 fun h' => h (Or.inr ?_)⟩
    exact EReal.neg_eq_top_iff.1 h'

theorem exps_at (s : Rows) (t : Graphs) (n : Fin 50000) (g : Fin 512) (h : word g = x1 (ix1 n)) :
    exps x1 s t (ix1 n) = Ideal.exp (s (ix1 n) - t (ix1 g)) := by
  rw [← take1 x1 t n g h]
  rfl

theorem sums_at (e : Rows) (g : Fin 512) : sums x1 e (ix1 g) = ∑ n : Fin 50000, if word g = x1 (ix1 n) then e (ix1 n) else (0 : EReal) := by
  have hi : ∀ n : Fin 50000, val_main_v46 (F := Ideal) x1 (ix2 n (0 : Fin 1)) = x1 (ix1 n) := fun n => by pointwise [val_main_v46]
  have z : val_main_v45 (F := Ideal) (ix1 g) = (0 : EReal) := by pointwise [val_main_v45, val_main_cst_11]
  refine (scatter1 _ _ _ g).trans ?_
  rw [z, zero_add]
  simp only [hi]

theorem weights_at (e : Rows) (z : Graphs) (n : Fin 50000) (g : Fin 512) (h : word g = x1 (ix1 n)) :
    weights x1 e z (ix1 n) = Ideal.div (e (ix1 n)) (z (ix1 g) + eps) := by
  have he : val_main_v55 (F := Ideal) (ix1 n) = eps := by pointwise [val_main_v55, val_main_cst_14]
  rw [← take1 x1 z n g h, ← he]
  rfl

theorem weighted_at (w : Rows) (n : Fin 50000) (k : Fin 256) : weighted x0 w (ix2 n k) = x0 (ix2 n k) * w (ix1 n) := by
  unfold weighted
  pointwise

theorem contexts_at (u : Table) (g : Fin 512) (k : Fin 256) :
    contexts x1 u (ix2 g k) = ∑ n : Fin 50000, if word g = x1 (ix1 n) then u (ix2 n k) else (0 : EReal) := by
  have hi : ∀ n : Fin 50000, val_main_v62 (F := Ideal) x1 (ix2 n (0 : Fin 1)) = x1 (ix1 n) := fun n => by pointwise [val_main_v62]
  have z : val_main_v61 (F := Ideal) (ix2 g k) = (0 : EReal) := by pointwise [val_main_v61, val_main_cst_15]
  refine (scatter2 _ _ _ g k).trans ?_
  rw [z, zero_add]
  simp only [hi]

/-! ## The pass by rows and graphs -/

/-- A member row's exponential is its weight in the kernel's form; no other row has one. -/
theorem weight_at (n : Fin 50000) (g : Fin 512) :
    (if word g = x1 (ix1 n) then exps x1 (scores x1 a gf) (finite (tops x1 (scores x1 a gf))) (ix1 n) else (0 : EReal))
      = wt (fun n => x1 (ix1 n)) (top (fun n => x1 (ix1 n)) (mat gf) (mat a)) (score (fun n => x1 (ix1 n)) (mat gf) (mat a)) g n := by
  unfold wt
  by_cases h : word g = x1 (ix1 n)
  · rw [if_pos h, if_pos h, exps_at x1 _ _ n g h, finite_at, tops_at, score_member a x1 gf n g h]
    rw [sum_word h fun g' => fix (top (fun n => x1 (ix1 n)) (mat gf) (mat a) g')]
  · rw [if_neg h, if_neg h]

theorem den_pos {w : EReal} (h : 0 ≤ w) : 0 < w + eps := eps_pos.trans_le (le_add_of_nonneg_left h)

theorem attended_at (g : Fin 512) (k : Fin 256) :
    attended x0 x1 a gf (ix2 g k) = context (fun n => x1 (ix1 n)) (mat x0) (mat a) (mat gf) g k := by
  have hw := fun n => weight_at a x1 gf n g
  unfold attended context
  rw [contexts_at]
  generalize exps x1 (scores x1 a gf) (finite (tops x1 (scores x1 a gf))) = e at hw ⊢
  have hz : sums x1 e (ix1 g) = wsum (fun n => x1 (ix1 n)) (top (fun n => x1 (ix1 n)) (mat gf) (mat a)) (score (fun n => x1 (ix1 n)) (mat gf) (mat a)) g := by
    rw [sums_at]
    exact Finset.sum_congr rfl fun n _ => hw n
  unfold wctx
  rw [sum_div _ _ _ (den_pos (wsum_nonneg _ _ _ _))]
  refine Finset.sum_congr rfl fun n _ => ?_
  rw [← hw, ← hz]
  by_cases h : word g = x1 (ix1 n)
  · rw [if_pos h, if_pos h, weighted_at, weights_at x1 e _ n g h]
  · obtain ⟨c, _, hc⟩ := div_pos_eq (den_pos (wsum_nonneg (fun n => x1 (ix1 n))
      (top (fun n => x1 (ix1 n)) (mat gf) (mat a)) (score (fun n => x1 (ix1 n)) (mat gf) (mat a)) g))
    rw [if_neg h, if_neg h, hz, hc, zero_mul, mul_zero]

theorem gates_at (c : Feats) (w : FVec Ideal S768x256 .f32) (b : FVec Ideal S768 .f32) (g : Fin 512) (r : Fin 768) :
    gates c w b (ix2 g r) = gate (mat c g) (mat w) (vec b) r := by
  unfold gates gate
  pointwise

theorem slice0_at (u : FVec Ideal S512x768 .f32) (g : Fin 512) (k : Fin 256) : slice0 u (ix2 g k) = u (ix2 g ⟨k.val, by omega⟩) := by
  unfold slice0
  pointwise
theorem slice1_at (u : FVec Ideal S512x768 .f32) (g : Fin 512) (k : Fin 256) : slice1 u (ix2 g k) = u (ix2 g ⟨256 + k.val, by omega⟩) := by
  unfold slice1
  pointwise
theorem slice2_at (u : FVec Ideal S512x768 .f32) (g : Fin 512) (k : Fin 256) : slice2 u (ix2 g k) = u (ix2 g ⟨512 + k.val, by omega⟩) := by
  unfold slice2
  pointwise

theorem sigmoid_at (v : Feats) (g : Fin 512) (k : Fin 256) : sigmoid v (ix2 g k) = Ideal.logistic (v (ix2 g k)) := by
  unfold sigmoid Ideal.logistic
  pointwise [val_main_v85, val_main_v83, val_main_cst_16, val_main_cst_17]

theorem recur_at (u v : FVec Ideal S512x768 .f32) (h : Feats) (g : Fin 512) (k : Fin 256) :
    recur u v h (ix2 g k)
      = (1 - Ideal.logistic (u (ix2 g ⟨256 + k.val, by omega⟩) + v (ix2 g ⟨256 + k.val, by omega⟩)))
          * Ideal.tanh (u (ix2 g ⟨512 + k.val, by omega⟩)
              + Ideal.logistic (u (ix2 g ⟨k.val, by omega⟩) + v (ix2 g ⟨k.val, by omega⟩)) * v (ix2 g ⟨512 + k.val, by omega⟩))
        + Ideal.logistic (u (ix2 g ⟨256 + k.val, by omega⟩) + v (ix2 g ⟨256 + k.val, by omega⟩)) * h (ix2 g k) := by
  have ho : val_main_v97 (F := Ideal) (ix2 g k) = (1 : EReal) := by pointwise [val_main_v97, val_main_cst_20]
  simp only [← slice0_at, ← slice1_at, ← slice2_at, ← ho]
  have e1 := sigmoid_at (addf (F := Ideal) (slice1 u) (slice1 v)) g k
  have e0 := sigmoid_at (addf (F := Ideal) (slice0 u) (slice0 v)) g k
  refine Eq.trans ?_ (congrArg₂ (fun p q : EReal => (val_main_v97 (F := Ideal) (ix2 g k) - p) * Ideal.tanh (slice2 u (ix2 g k) + q * slice2 v (ix2 g k)) + p * h (ix2 g k)) e1 e0)
  rfl

theorem step_at (x2 : FVec Ideal S256x256 .f32) (x3 x4 : FVec Ideal S768x256 .f32) (x5 x6 : FVec Ideal S768 .f32) (g : Fin 512) (k : Fin 256) :
    step x0 x1 x2 x3 x4 x5 x6 gf (ix2 g k)
      = pass (fun n => x1 (ix1 n)) (mat x0) (attend (mat x0) (mat x2)) (mat x3) (mat x4) (vec x5) (vec x6) (mat gf) g k := by
  have ha : mat (val_main_v20 (F := Ideal) x0 x2) = attend (mat x0) (mat x2) := funext fun n => funext fun k => attend_at x0 x2 n k
  have hc : mat (attended x0 x1 (val_main_v20 (F := Ideal) x0 x2) gf) g = context (fun n => x1 (ix1 n)) (mat x0) (attend (mat x0) (mat x2)) (mat gf) g := by
    funext k
    rw [← ha]
    exact attended_at x0 _ x1 gf g k
  unfold step pass cell
  rw [recur_at]
  simp only [gates_at]
  rw [hc]

/-- The reference's result by graphs and lanes. -/
theorem readout_at (x2 : FVec Ideal S256x256 .f32) (x3 x4 : FVec Ideal S768x256 .f32) (x5 x6 : FVec Ideal S768 .f32) :
    val_main_v191 (F := Ideal) x0 x1 x2 x3 x4 x5 x6
      = fun i => readout (fun n => x1 (ix1 n)) (mat x0) (mat x2) (mat x3) (mat x4) (vec x5) (vec x6) (i 0) (i 1) := by
  funext i
  idx_vars i
  have h0 : mat (val_main_v11 (F := Ideal) x0 x1) = means (fun n => x1 (ix1 n)) (mat x0) := funext fun g => funext fun k => means_at x0 x1 g k
  have h1 : mat (val_main_v101 (F := Ideal) x0 x1 x2 x3 x4 x5 x6)
      = pass (fun n => x1 (ix1 n)) (mat x0) (attend (mat x0) (mat x2)) (mat x3) (mat x4) (vec x5) (vec x6) (means (fun n => x1 (ix1 n)) (mat x0)) := by
    rw [first, ← h0]
    exact funext fun g => funext fun k => step_at x0 x1 _ x2 x3 x4 x5 x6 g k
  rw [second, step_at, h1]
  rfl

end Cert.ReferenceIdeal.Pass
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefPass
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves its arguments as launched; it has no semaphores. -/
theorem reference_frame : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Both programs end with `Chain.result` of the kernel's arguments. -/
theorem algebraic : Cert.algebraic_KernelIdeal_ReferenceIdeal := by
  intro m ρ m' ρ' _ hargs
  refine ⟨Cert.KernelIdeal.Chain.result m, Cert.KernelIdeal.Chain.run m ρ,
    (θ_run _ _ _).mono (fun r h c => ⟨(h c).1.trans ?_, (h c).2⟩) (Cert.ReferenceIdeal.Value.run (F := Ideal) m' ρ')⟩
  obtain ⟨h0, h1, h2, h3, h4, h5, h6⟩ := hargs c
  refine (Cert.ReferenceIdeal.Read.val_main_v191_eq (F := Ideal) (StableHlo.launchContents m' c)).trans ?_
  simp only [StableHlo.launchContents_devRef, h0, h1, h2, h3, h4, h5, h6]
  exact Cert.ReferenceIdeal.Pass.readout_at _ _ _ _ _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
